-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite_KernelIdeal [hPre_gates_finite_KernelIdeal : Cert.Pre_gates_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gates_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite_ReferenceIdeal [hPre_gates_finite_ReferenceIdeal : Cert.Pre_gates_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gates_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_finite_KernelIdeal [hKernelIdeal : Cert.KernelIdeal.Facts] [hPre_gates_finite_KernelIdeal : Cert.Pre_gates_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_finite_ReferenceIdeal [hReferenceIdeal : Cert.ReferenceIdeal.Facts] [hPre_gates_finite_ReferenceIdeal : Cert.Pre_gates_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_gates_finite_KernelIdeal [hKernelIdeal : Cert.KernelIdeal.Facts] [hReferenceIdeal : Cert.ReferenceIdeal.Facts] [hPre_gates_finite_KernelIdeal : Cert.Pre_gates_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 512]⟩ ⟨2, ![512, 512]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v178) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gates_finite_KernelIdeal : Cert.Pre_gates_finite_KernelIdeal.Facts) (hPre_gates_finite_ReferenceIdeal : Cert.Pre_gates_finite_ReferenceIdeal.Facts),
    quiescent_Kernel (hKernel := hKernel)
    ∧ quiescent_KernelIdeal (hKernelIdeal := hKernelIdeal)
    ∧ quiescent_KernelIdeal_pre_gates_finite_KernelIdeal (hKernelIdeal := hKernelIdeal) (hPre_gates_finite_KernelIdeal := hPre_gates_finite_KernelIdeal)
    ∧ quiescent_ReferenceIdeal (hReferenceIdeal := hReferenceIdeal)
    ∧ quiescent_ReferenceIdeal_pre_gates_finite_ReferenceIdeal (hReferenceIdeal := hReferenceIdeal) (hPre_gates_finite_ReferenceIdeal := hPre_gates_finite_ReferenceIdeal)
    ∧ preserves_Kernel_KernelIdeal
    ∧ algebraic_KernelIdeal_ReferenceIdeal_pre_gates_finite_KernelIdeal (hKernelIdeal := hKernelIdeal) (hReferenceIdeal := hReferenceIdeal) (hPre_gates_finite_KernelIdeal := hPre_gates_finite_KernelIdeal)
-- ==== Pre_gates_finite_KernelIdeal.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S_ : Shape := ⟨0, ![]⟩

class Facts : Prop where
  bcast_S_S256x512 : S_.BroadcastsInDim S256x512 (![] : Fin 0 → Fin S256x512.rank)
  bcast_S_S512x2 : S_.BroadcastsInDim S512x2 (![] : Fin 0 → Fin S512x2.rank)

variable [Facts]

def fn {F : FTy → Type} [FloatOps F] (main_arg0 : FVec F S256x512 .f32) (main_arg1 : FVec F S512x2 .f32) (main_arg2 : FVec F S2x512x1024 .f32) (main_arg3 : FVec F S2x1024x512 .f32) : IVec S256x512 1 × IVec S512x2 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x2 .f32 := Host.absf main_arg1
  let main_cst_0 : FVec F S_ .f32 := constant S_ .f32 0x7F800000#32
  let main_v4 : FVec F S512x2 .f32 := broadcastInDim S512x2 ![] bcast_S_S512x2 main_cst_0
  let main_v5 : IVec S512x2 1 := cmpf .olt main_v3 main_v4
  (main_v2, main_v5)
-- ==== Pre_gates_finite_ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S_ : Shape := ⟨0, ![]⟩

class Facts : Prop where
  bcast_S_S512x512 : S_.BroadcastsInDim S512x512 (![] : Fin 0 → Fin S512x512.rank)
  bcast_S_S512x4 : S_.BroadcastsInDim S512x4 (![] : Fin 0 → Fin S512x4.rank)

variable [Facts]

def fn {F : FTy → Type} [FloatOps F] (main_arg0 : FVec F S512x512 .f32) (main_arg1 : FVec F S512x4 .f32) (main_arg2 : FVec F S4x512x1024 .f32) (main_arg3 : FVec F S4x1024x512 .f32) : IVec S512x512 1 × IVec S512x4 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_v3 : FVec F S512x4 .f32 := Host.absf main_arg1
  let main_cst_0 : FVec F S_ .f32 := constant S_ .f32 0x7F800000#32
  let main_v4 : FVec F S512x4 .f32 := broadcastInDim S512x4 ![] bcast_S_S512x4 main_cst_0
  let main_v5 : IVec S512x4 1 := cmpf .olt main_v3 main_v4
  (main_v2, main_v5)
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S128x512 : Shape := ⟨2, ![128, 512]⟩
abbrev S128x2 : Shape := ⟨2, ![128, 2]⟩
abbrev S6 : Shape := ⟨1, ![6]⟩
abbrev S5 : Shape := ⟨1, ![5]⟩
abbrev S1 : Shape := ⟨1, ![1]⟩
abbrev S_ : Shape := ⟨0, ![]⟩
abbrev S128x4 : Shape := ⟨2, ![128, 4]⟩
abbrev S128 : Shape := ⟨1, ![128]⟩
abbrev S128x1 : Shape := ⟨2, ![128, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S128x1024 : Shape := ⟨2, ![128, 1024]⟩

abbrev nBuf : Space → Nat
  | .hbm => 5
  | .vmem => 16
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S512x2, .f32⟩
  | .local _ .vmem, ⟨1, _⟩ => ⟨S2x512x1024, .f32⟩
  | .local _ .vmem, ⟨2, _⟩ => ⟨S2x1024x512, .f32⟩
  | .local _ .vmem, ⟨3, _⟩ => ⟨S128x512, .f32⟩
  | .local _ .vmem, ⟨4, _⟩ => ⟨S128x512, .bf16⟩
  | .local _ .vmem, ⟨5, _⟩ => ⟨S128x512, .bf16⟩
  | .local _ .vmem, ⟨6, _⟩ => ⟨S512x2, .f32⟩
  | .local _ .vmem, ⟨7, _⟩ => ⟨S128x2, .f32⟩
  | .local _ .vmem, ⟨8, _⟩ => ⟨S128x2, .f32⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .f32⟩
  | .local _ .vmem, ⟨15, _⟩ => ⟨S128x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c128_i32 : BitVec 32 := 128#32
  let v10 : BitVec 32 := Scalar.muli v2 c128_i32
  let c0_i32_10 : BitVec 32 := 0#32
  ![v10.toNat, 0]
def k0_dev1 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v21 : BitVec 32 := Scalar.muli v2 c2_i32_12
  let v22 : BitVec 32 := Scalar.addi c0_i32_13 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v23 : BitVec 32 := Scalar.muli v6 c1_i32_14
  let v24 : BitVec 32 := Scalar.addi v22 v23
  v24.toNat
def k0_dev2 (d0 : Dev nD) : Nat :=
  let c0_i32_17 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_16 : BitVec 32 := 2#32
  let v25 : BitVec 32 := Scalar.muli v7 c2_i32_16
  let v26 : BitVec 32 := Scalar.addi c0_i32_17 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v27 : BitVec 32 := Scalar.muli v5 c1_i32_18
  let v28 : BitVec 32 := Scalar.addi v26 v27
  v28.toNat
def k0_dev3 (d0 : Dev nD) : Nat :=
  let c0_i32_21 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_20 : BitVec 32 := 2#32
  let v29 : BitVec 32 := Scalar.muli v8 c2_i32_20
  let v30 : BitVec 32 := Scalar.addi c0_i32_21 v29
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_22 : BitVec 32 := 1#32
  let v31 : BitVec 32 := Scalar.muli v9 c1_i32_22
  let v32 : BitVec 32 := Scalar.addi v30 v31
  v32.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v33 : BitVec 32 := Scalar.muli v2 c2_i32_25
  let v34 : BitVec 32 := Scalar.addi c0_i32_26 v33
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v35 : BitVec 32 := Scalar.muli v6 c1_i32_27
  let v36 : BitVec 32 := Scalar.addi v34 v35
  v36.toNat
def k0_dev5 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v49 : BitVec 32 := Scalar.muli v2 c2_i32_35
  let v50 : BitVec 32 := Scalar.addi c0_i32_36 v49
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_37 : BitVec 32 := 1#32
  let v51 : BitVec 32 := Scalar.muli v6 c1_i32_37
  let v52 : BitVec 32 := Scalar.addi v50 v51
  v52.toNat
def k0_dev6 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v103 : BitVec 32 := Scalar.muli v2 c2_i32_65
  let v104 : BitVec 32 := Scalar.addi c0_i32_66 v103
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v105 : BitVec 32 := Scalar.muli v6 c1_i32_67
  let v106 : BitVec 32 := Scalar.addi v104 v105
  v106.toNat
def k0_dev7 (d0 : Dev nD) : Nat :=
  let c0_i32_94 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_93 : BitVec 32 := 2#32
  let v149 : BitVec 32 := Scalar.muli v7 c2_i32_93
  let v150 : BitVec 32 := Scalar.addi c0_i32_94 v149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_95 : BitVec 32 := 1#32
  let v151 : BitVec 32 := Scalar.muli v5 c1_i32_95
  let v152 : BitVec 32 := Scalar.addi v150 v151
  v152.toNat
def k0_dev8 (d0 : Dev nD) : Nat :=
  let c0_i32_126 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_125 : BitVec 32 := 2#32
  let v196 : BitVec 32 := Scalar.muli v8 c2_i32_125
  let v197 : BitVec 32 := Scalar.addi c0_i32_126 v196
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_127 : BitVec 32 := 1#32
  let v198 : BitVec 32 := Scalar.muli v9 c1_i32_127
  let v199 : BitVec 32 := Scalar.addi v197 v198
  v199.toNat
def k0_dev9 (d0 : Dev nD) : Nat :=
  let c0_i32_130 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_129 : BitVec 32 := 2#32
  let v204 : BitVec 32 := Scalar.muli v2 c2_i32_129
  let v205 : BitVec 32 := Scalar.addi c0_i32_130 v204
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_131 : BitVec 32 := 1#32
  let v206 : BitVec 32 := Scalar.muli v6 c1_i32_131
  let v207 : BitVec 32 := Scalar.addi v205 v206
  v207.toNat
def k0_off2 (d0 : Dev nD) : Fin 2 → Nat :=
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 32 := Scalar.subi c1_i32_6 v2
  let c128_i32_7 : BitVec 32 := 128#32
  let v12 : BitVec 32 := Scalar.muli v11 c128_i32_7
  let c0_i32_163 : BitVec 32 := 0#32
  ![v12.toNat, 0]
abbrev stage0_0 : Fin 1 → Memref sig .tc .vmem S512x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S4 : Shape := ⟨1, ![4]⟩
abbrev S512x4x1 : Shape := ⟨3, ![512, 4, 1]⟩
abbrev S512x1x4 : Shape := ⟨3, ![512, 1, 4]⟩
abbrev S512x4x4 : Shape := ⟨3, ![512, 4, 4]⟩
abbrev S_ : Shape := ⟨0, ![]⟩
abbrev S1x4 : Shape := ⟨2, ![1, 4]⟩
abbrev S512x2 : Shape := ⟨2, ![512, 2]⟩
abbrev S512x2x1 : Shape := ⟨3, ![512, 2, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 244
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S4, .i32⟩
  | 6 => ⟨S512x4x1, .f32⟩
  | 7 => ⟨S512x1x4, .f32⟩
  | 8 => ⟨S512x4x4, .f32⟩
  | 9 => ⟨S512x4x4, .f32⟩
  | 10 => ⟨S512x4x4, .i1⟩
  | 11 => ⟨S_, .i32⟩
  | 12 => ⟨S_, .i32⟩
  | 13 => ⟨S512x4x4, .i32⟩
  | 14 => ⟨S512x4x4, .i32⟩
  | 15 => ⟨S512x4x4, .i32⟩
  | 16 => ⟨S_, .i32⟩
  | 17 => ⟨S512x4, .i32⟩
  | 18 => ⟨S1x4, .i32⟩
  | 19 => ⟨S512x4, .i32⟩
  | 20 => ⟨S512x4, .i1⟩
  | 21 => ⟨S_, .f32⟩
  | 22 => ⟨S_, .f32⟩
  | 23 => ⟨S512x4, .f32⟩
  | 24 => ⟨S512x4, .f32⟩
  | 25 => ⟨S512x4, .f32⟩
  | 26 => ⟨S512x4, .i32⟩
  | 27 => ⟨S512x4, .f32⟩
  | 28 => ⟨S512x4, .i32⟩
  | 29 => ⟨S512x2, .i32⟩
  | 30 => ⟨S_, .i32⟩
  | 31 => ⟨S512x2, .i32⟩
  | 32 => ⟨S512x2, .i1⟩
  | 33 => ⟨S_, .i32⟩
  | 34 => ⟨S512x2, .i32⟩
  | 35 => ⟨S512x2, .i32⟩
  | 36 => ⟨S512x2, .i32⟩
  | 37 => ⟨S512x2x1, .i32⟩
  | 38 => ⟨S512x2, .f32⟩
  | 39 => ⟨S_, .f32⟩
  | 40 => ⟨S512, .f32⟩
  | 41 => ⟨S512x1, .f32⟩
  | 42 => ⟨S512x2, .f32⟩
  | 43 => ⟨S512x2, .f32⟩
  | 44 => ⟨S512x2, .f32⟩
  | 45 => ⟨S_, .f32⟩
  | 46 => ⟨S512, .f32⟩
  | 47 => ⟨S512x1, .f32⟩
  | 48 => ⟨S512x2, .f32⟩
  | 49 => ⟨S512x2, .f32⟩
  | 50 => ⟨S_, .f32⟩
  | 51 => ⟨S512x512, .f32⟩
  | 52 => ⟨S512x1, .i32⟩
  | 53 => ⟨S512, .i32⟩
  | 54 => ⟨S512x1, .i32⟩
  | 55 => ⟨S512, .i32⟩
  | 56 => ⟨S512, .i1⟩
  | 57 => ⟨S1x512x1024, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S512x1, .i1⟩
  | 64 => ⟨S1x1024x512, .f32⟩
  | 65 => ⟨S1024x512, .f32⟩
  | 66 => ⟨S512x512, .f32⟩
  | 67 => ⟨S512x1, .f32⟩
  | 68 => ⟨S512x512, .f32⟩
  | 69 => ⟨S512x512, .f32⟩
  | 70 => ⟨S_, .f32⟩
  | 71 => ⟨S_, .f32⟩
  | 72 => ⟨S512x512, .i1⟩
  | 73 => ⟨S512x512, .f32⟩
  | 74 => ⟨S512x512, .f32⟩
  | 75 => ⟨S512x512, .f32⟩
  | 76 => ⟨S512x1, .i32⟩
  | 77 => ⟨S512, .i32⟩
  | 78 => ⟨S512x1, .i32⟩
  | 79 => ⟨S512, .i32⟩
  | 80 => ⟨S512, .i1⟩
  | 81 => ⟨S1x512x1024, .f32⟩
  | 82 => ⟨S512x1024, .f32⟩
  | 83 => ⟨S512x1024, .f32⟩
  | 84 => ⟨S_, .f32⟩
  | 85 => ⟨S512x1024, .f32⟩
  | 86 => ⟨S512x1024, .f32⟩
  | 87 => ⟨S512x1, .i1⟩
  | 88 => ⟨S1x1024x512, .f32⟩
  | 89 => ⟨S1024x512, .f32⟩
  | 90 => ⟨S512x512, .f32⟩
  | 91 => ⟨S512x1, .f32⟩
  | 92 => ⟨S512x512, .f32⟩
  | 93 => ⟨S512x512, .f32⟩
  | 94 => ⟨S_, .f32⟩
  | 95 => ⟨S_, .f32⟩
  | 96 => ⟨S512x512, .i1⟩
  | 97 => ⟨S512x512, .f32⟩
  | 98 => ⟨S512x512, .f32⟩
  | 99 => ⟨S512x512, .f32⟩
  | 100 => ⟨S512x1, .i32⟩
  | 101 => ⟨S512, .i32⟩
  | 102 => ⟨S512x1, .i32⟩
  | 103 => ⟨S512, .i32⟩
  | 104 => ⟨S512, .i1⟩
  | 105 => ⟨S1x512x1024, .f32⟩
  | 106 => ⟨S512x1024, .f32⟩
  | 107 => ⟨S512x1024, .f32⟩
  | 108 => ⟨S_, .f32⟩
  | 109 => ⟨S512x1024, .f32⟩
  | 110 => ⟨S512x1024, .f32⟩
  | 111 => ⟨S512x1, .i1⟩
  | 112 => ⟨S1x1024x512, .f32⟩
  | 113 => ⟨S1024x512, .f32⟩
  | 114 => ⟨S512x512, .f32⟩
  | 115 => ⟨S512x1, .f32⟩
  | 116 => ⟨S512x512, .f32⟩
  | 117 => ⟨S512x512, .f32⟩
  | 118 => ⟨S_, .f32⟩
  | 119 => ⟨S_, .f32⟩
  | 120 => ⟨S512x512, .i1⟩
  | 121 => ⟨S512x512, .f32⟩
  | 122 => ⟨S512x512, .f32⟩
  | 123 => ⟨S512x512, .f32⟩
  | 124 => ⟨S512x1, .i32⟩
  | 125 => ⟨S512, .i32⟩
  | 126 => ⟨S512x1, .i32⟩
  | 127 => ⟨S512, .i32⟩
  | _ => ⟨S512x512, .f32⟩

abbrev hbmTy0_1 (i : Nat) : BufTy := match i % 128 with
  | 0 => ⟨S512, .i1⟩
  | 1 => ⟨S1x512x1024, .f32⟩
  | 2 => ⟨S512x1024, .f32⟩
  | 3 => ⟨S512x1024, .f32⟩
  | 4 => ⟨S_, .f32⟩
  | 5 => ⟨S512x1024, .f32⟩
  | 6 => ⟨S512x1024, .f32⟩
  | 7 => ⟨S512x1, .i1⟩
  | 8 => ⟨S1x1024x512, .f32⟩
  | 9 => ⟨S1024x512, .f32⟩
  | 10 => ⟨S512x512, .f32⟩
  | 11 => ⟨S512x1, .f32⟩
  | 12 => ⟨S512x512, .f32⟩
  | 13 => ⟨S512x512, .f32⟩
  | 14 => ⟨S_, .f32⟩
  | 15 => ⟨S_, .f32⟩
  | 16 => ⟨S512x512, .i1⟩
  | 17 => ⟨S512x512, .f32⟩
  | 18 => ⟨S512x512, .f32⟩
  | 19 => ⟨S512x512, .f32⟩
  | 20 => ⟨S512x1, .i32⟩
  | 21 => ⟨S512, .i32⟩
  | 22 => ⟨S512x1, .i32⟩
  | 23 => ⟨S512, .i32⟩
  | 24 => ⟨S512, .i1⟩
  | 25 => ⟨S1x512x1024, .f32⟩
  | 26 => ⟨S512x1024, .f32⟩
  | 27 => ⟨S512x1024, .f32⟩
  | 28 => ⟨S_, .f32⟩
  | 29 => ⟨S512x1024, .f32⟩
  | 30 => ⟨S512x1024, .f32⟩
  | 31 => ⟨S512x1, .i1⟩
  | 32 => ⟨S1x1024x512, .f32⟩
  | 33 => ⟨S1024x512, .f32⟩
  | 34 => ⟨S512x512, .f32⟩
  | 35 => ⟨S512x1, .f32⟩
  | 36 => ⟨S512x512, .f32⟩
  | 37 => ⟨S512x512, .f32⟩
  | 38 => ⟨S_, .f32⟩
  | 39 => ⟨S_, .f32⟩
  | 40 => ⟨S512x512, .i1⟩
  | 41 => ⟨S512x512, .f32⟩
  | 42 => ⟨S512x512, .f32⟩
  | 43 => ⟨S512x512, .f32⟩
  | 44 => ⟨S512x1, .i32⟩
  | 45 => ⟨S512, .i32⟩
  | 46 => ⟨S512x1, .i32⟩
  | 47 => ⟨S512, .i32⟩
  | 48 => ⟨S512, .i1⟩
  | 49 => ⟨S1x512x1024, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S512x1, .i1⟩
  | 56 => ⟨S1x1024x512, .f32⟩
  | 57 => ⟨S1024x512, .f32⟩
  | 58 => ⟨S512x512, .f32⟩
  | 59 => ⟨S512x1, .f32⟩
  | 60 => ⟨S512x512, .f32⟩
  | 61 => ⟨S512x512, .f32⟩
  | 62 => ⟨S_, .f32⟩
  | 63 => ⟨S_, .f32⟩
  | 64 => ⟨S512x512, .i1⟩
  | 65 => ⟨S512x512, .f32⟩
  | 66 => ⟨S512x512, .f32⟩
  | 67 => ⟨S512x512, .f32⟩
  | 68 => ⟨S512x1, .i32⟩
  | 69 => ⟨S512, .i32⟩
  | 70 => ⟨S512x1, .i32⟩
  | 71 => ⟨S512, .i32⟩
  | 72 => ⟨S512, .i1⟩
  | 73 => ⟨S1x512x1024, .f32⟩
  | 74 => ⟨S512x1024, .f32⟩
  | 75 => ⟨S512x1024, .f32⟩
  | 76 => ⟨S_, .f32⟩
  | 77 => ⟨S512x1024, .f32⟩
  | 78 => ⟨S512x1024, .f32⟩
  | 79 => ⟨S512x1, .i1⟩
  | 80 => ⟨S1x1024x512, .f32⟩
  | 81 => ⟨S1024x512, .f32⟩
  | 82 => ⟨S512x512, .f32⟩
  | 83 => ⟨S512x1, .f32⟩
  | 84 => ⟨S512x512, .f32⟩
  | 85 => ⟨S512x512, .f32⟩
  | 86 => ⟨S_, .f32⟩
  | 87 => ⟨S_, .f32⟩
  | 88 => ⟨S512x512, .i1⟩
  | 89 => ⟨S512x512, .f32⟩
  | 90 => ⟨S512x512, .f32⟩
  | 91 => ⟨S512x512, .f32⟩
  | 92 => ⟨S512x1, .i32⟩
  | 93 => ⟨S512, .i32⟩
  | 94 => ⟨S512x1, .i32⟩
  | 95 => ⟨S512, .i32⟩
  | 96 => ⟨S512, .i1⟩
  | 97 => ⟨S1x512x1024, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S512x1, .i1⟩
  | 104 => ⟨S1x1024x512, .f32⟩
  | 105 => ⟨S1024x512, .f32⟩
  | 106 => ⟨S512x512, .f32⟩
  | 107 => ⟨S512x1, .f32⟩
  | 108 => ⟨S512x512, .f32⟩
  | 109 => ⟨S512x512, .f32⟩
  | 110 => ⟨S_, .f32⟩
  | 111 => ⟨S_, .f32⟩
  | 112 => ⟨S512x512, .i1⟩
  | 113 => ⟨S512x512, .f32⟩
  | 114 => ⟨S512x512, .f32⟩
  | 115 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_call2_v1_0 : Ref sig .tc := ⟨.hbm, 27, rfl⟩
abbrev main_v14 : Ref sig .tc := ⟨.hbm, 28, rfl⟩
abbrev main_v15 : Ref sig .tc := ⟨.hbm, 29, rfl⟩
abbrev main_call3_c : Ref sig .tc := ⟨.hbm, 30, rfl⟩
abbrev main_call3_v0 : Ref sig .tc := ⟨.hbm, 31, rfl⟩
abbrev main_call3_v1 : Ref sig .tc := ⟨.hbm, 32, rfl⟩
abbrev main_call3_c_0 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_7 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_8 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_9 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_10 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_11 : Ref sig .tc := ⟨.hbm, 142, rfl⟩
abbrev main_call7_v0 : Ref sig .tc := ⟨.hbm, 143, rfl⟩
abbrev main_call7_v1 : Ref sig .tc := ⟨.hbm, 144, rfl⟩
abbrev main_call7_v2 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_12 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_13 : Ref sig .tc := ⟨.hbm, 166, rfl⟩
abbrev main_call8_v0 : Ref sig .tc := ⟨.hbm, 167, rfl⟩
abbrev main_call8_v1 : Ref sig .tc := ⟨.hbm, 168, rfl⟩
abbrev main_call8_v2 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_14 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_15 : Ref sig .tc := ⟨.hbm, 190, rfl⟩
abbrev main_call9_v0 : Ref sig .tc := ⟨.hbm, 191, rfl⟩
abbrev main_call9_v1 : Ref sig .tc := ⟨.hbm, 192, rfl⟩
abbrev main_call9_v2 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_16 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_cst_17 : Ref sig .tc := ⟨.hbm, 214, rfl⟩
abbrev main_call10_v0 : Ref sig .tc := ⟨.hbm, 215, rfl⟩
abbrev main_call10_v1 : Ref sig .tc := ⟨.hbm, 216, rfl⟩
abbrev main_call10_v2 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_18 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_19 : Ref sig .tc := ⟨.hbm, 238, rfl⟩
abbrev main_call11_v0 : Ref sig .tc := ⟨.hbm, 239, rfl⟩
abbrev main_call11_v1 : Ref sig .tc := ⟨.hbm, 240, rfl⟩
abbrev main_call11_v2 : Ref sig .tc := ⟨.hbm, 241, rfl⟩
abbrev main_v177 : Ref sig .tc := ⟨.hbm, 242, rfl⟩
abbrev main_v178 : Ref sig .tc := ⟨.hbm, 243, rfl⟩

abbrev nD : Nat := 1
abbrev τ : Topo := Topo.v7x

variable {F : FTy → Type} [FloatOps F]
-- ==== Proof.Proto.lean ====
/-
# The cross-device protocol of the mixture-of-experts kernel

Every device of the 2x2 mesh talks to its three peers: the one along `y` (`py`), the one along `x` (`px`) and the
diagonal one (`pd`), each an involution. Before anything travels each device tells all three peers, on their barrier
semaphore, that the buffers they will write into are theirs; then six transfers leave every device and six arrive.
This module writes the protocol down: the cells, who pays each of them and how much, the contents every landing hands
over, what a device owes at launch and the levels that order its waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds and the mesh's (three duty names, one per peer) -/

abbrev UM : Type := URounds (GSem nD τ sig) (Fin 3)
/-- Beside them the counters that a local copy in flight takes its tokens from. -/
abbrev UU : Type := UR sig nD τ × (UM × Counters)

local notation "𝕄" => MT nD τ sig Unit (Elt F) ℕ UU ℕ

abbrev EP : Emb (UR sig nD τ) (MT nD τ sig Unit (Elt F) ℕ UU ℕ) := embL
abbrev EM : Emb UM (MT nD τ sig Unit (Elt F) ℕ UU ℕ) := (Emb.inl : Emb UM (UM × Counters)).trans embR

variable (m : (ℓ : Loc nD τ sig) → Buf (Elt F) ℓ)

/-! ## The peers -/

/-- The peer along `y`. -/
def py (c : Dev nD) : Dev nD := ⟨k0_dev1 c, k0_dev1_lt c⟩
/-- The peer along `x`. -/
def px (c : Dev nD) : Dev nD := ⟨k0_dev2 c, k0_dev2_lt c⟩
/-- The diagonal peer. -/
def pd (c : Dev nD) : Dev nD := ⟨k0_dev3 c, k0_dev3_lt c⟩

/-- Each peer's peer is the device itself. -/
theorem py_py : ∀ c : Dev nD, py (py c) = c := by decide +kernel
/-- The `x` peer's `x` peer is the device. -/
theorem px_px : ∀ c : Dev nD, px (px c) = c := by decide +kernel
/-- The diagonal peer's diagonal peer is the device. -/
theorem pd_pd : ∀ c : Dev nD, pd (pd c) = c := by decide +kernel

/-- The transfers' device words name the same peers. -/
theorem dev1_eq (c : Dev nD) : (⟨k0_dev1 c, k0_dev1_lt c⟩ : Dev nD) = py c := rfl
/-- The same of device word 2. -/
theorem dev2_eq (c : Dev nD) : (⟨k0_dev2 c, k0_dev2_lt c⟩ : Dev nD) = px c := rfl
/-- The same of device word 3. -/
theorem dev3_eq (c : Dev nD) : (⟨k0_dev3 c, k0_dev3_lt c⟩ : Dev nD) = pd c := rfl
/-- The same of device word 4. -/
theorem dev4_eq (c : Dev nD) : (⟨k0_dev4 c, k0_dev4_lt c⟩ : Dev nD) = py c :=
  Fin.ext ((k0_dev4_eq c).trans (k0_dev1_eq c).symm)
/-- The same of device word 5. -/
theorem dev5_eq (c : Dev nD) : (⟨k0_dev5 c, k0_dev5_lt c⟩ : Dev nD) = py c :=
  Fin.ext ((k0_dev5_eq c).trans (k0_dev1_eq c).symm)
/-- The same of device word 6. -/
theorem dev6_eq (c : Dev nD) : (⟨k0_dev6 c, k0_dev6_lt c⟩ : Dev nD) = py c :=
  Fin.ext ((k0_dev6_eq c).trans (k0_dev1_eq c).symm)
/-- The same of device word 7. -/
theorem dev7_eq (c : Dev nD) : (⟨k0_dev7 c, k0_dev7_lt c⟩ : Dev nD) = px c :=
  Fin.ext ((k0_dev7_eq c).trans (k0_dev2_eq c).symm)
/-- The same of device word 8. -/
theorem dev8_eq (c : Dev nD) : (⟨k0_dev8 c, k0_dev8_lt c⟩ : Dev nD) = pd c :=
  Fin.ext ((k0_dev8_eq c).trans (k0_dev3_eq c).symm)
/-- The same of device word 9. -/
theorem dev9_eq (c : Dev nD) : (⟨k0_dev9 c, k0_dev9_lt c⟩ : Dev nD) = py c :=
  Fin.ext ((k0_dev9_eq c).trans (k0_dev1_eq c).symm)

/-! ## The cells -/

/-- The runtime's barrier semaphore (not scoped to the launch). -/
abbrev barS : Sem sig := (SemArray.scalar (sig.barrier 0 rfl) : Sems sig S_).sem
abbrev barCell (c : Dev nD) : GSem nD τ sig := ((c : Thread nD τ), .reg barS)
/-- Device `c`'s DMA cell number `q`: 1 to 6 count departures, 7 to 12 arrivals, 13 to 17 local copies. -/
abbrev dcell (c : Dev nD) (q : DmaSem sig) : GSem nD τ sig := ((c : Thread nD τ), .dma q)

/-- The credit of a transfer of activations, of the router's columns and of the weights' columns. -/
def NX : ℕ := (Memref.whole cc0_scratch4 : Memref sig .tc .vmem S128x512 .bf16).view.dmaCredit
def NR : ℕ := (Memref.whole cc0_scratch5 : Memref sig .tc .vmem S512x2 .f32).view.dmaCredit
def NW : ℕ := (Memref.whole cc0_scratch7 : Memref sig .tc .vmem S128x2 .f32).view.dmaCredit
/-- Such a transfer pays something. -/
theorem NX_pos : 0 < NX := View.dmaCredit_pos _ (by decide)
/-- Such a transfer pays something. -/
theorem NR_pos : 0 < NR := View.dmaCredit_pos _ (by decide)
/-- Such a transfer pays something. -/
theorem NW_pos : 0 < NW := View.dmaCredit_pos _ (by decide)

/-! ## The contents -/

/-- The kernel's views of the two halves of the rows of `x` and of the result. -/
abbrev xM : Memref sig .tc .hbm S256x512 .f32 := Memref.whole main_arg0
abbrev oM : Memref sig .tc .hbm S256x512 .f32 := Memref.whole main_v1
abbrev xHalf (c : Dev nD) : Memref sig .tc .hbm S128x512 .f32 :=
  xM.slice (Rect.unit (s := S256x512) (k0_off1 c) S128x512.size (k0_off1_inb c)) (fun _ => rfl)
abbrev oHalf1 (c : Dev nD) : Memref sig .tc .hbm S128x512 .f32 :=
  oM.slice (Rect.unit (s := S256x512) (k0_off1 c) S128x512.size (k0_off1_inb c)) (fun _ => rfl)
abbrev oHalf2 (c : Dev nD) : Memref sig .tc .hbm S128x512 .f32 :=
  oM.slice (Rect.unit (s := S256x512) (k0_off2 c) S128x512.size (k0_off2_inb c)) (fun _ => rfl)

/-- Device `c`'s half of its rows of `x`. -/
def xhv (c : Dev nD) : Vec F S128x512 .f32 := (xHalf c).view.read (Elt F) (m ((c : Thread nD τ).loc main_arg0))
/-- The same in the narrower type, as sent to `py c`. -/
def xsv (c : Dev nD) : Vec F S128x512 .bf16 := k0_pay1 (xhv m c)
/-- Device `c`'s columns of the router, as staged. -/
def rv (c : Dev nD) : (cc0_stg0_0 : Ref sig .tc).ty.Contents (Elt F) :=
  (win0_0.blk (0 : Fin 1)).view.read (Elt F) (m ((c : Thread nD τ).loc main_arg1))
/-- The four gate weights of the device's rows: its own two experts' first. -/
def wtv (c : Dev nD) : FVec F S128x4 .f32 :=
  k0_pay12 (k0_pay7 (xhv m c) (rv m c) (rv m (py c))) (k0_pay9 (xhv m c) (rv m c) (rv m (py c)))
    (k0_pay10 (xhv m c) (rv m c) (rv m (py c))) (k0_pay11 (F := F))
/-- The two weights of the experts of `py c`, as sent to it. -/
def wsv (c : Dev nD) : Vec F S128x2 .f32 :=
  k0_pay13 (k0_pay7 (xhv m c) (rv m c) (rv m (py c))) (k0_pay9 (xhv m c) (rv m c) (rv m (py c)))
    (k0_pay10 (xhv m c) (rv m c) (rv m (py c))) (k0_pay11 (F := F))

abbrev w1M : Memref sig .tc .vmem S2x512x1024 .f32 := Memref.whole cc0_scratch0
abbrev w2M : Memref sig .tc .vmem S2x1024x512 .f32 := Memref.whole cc0_scratch1
/-- Device `c`'s two experts' first matrices and second matrices. -/
def u0v (c : Dev nD) : Vec F S1x512x1024 .f32 :=
  w1M.view.readAt (Elt F) (Rect.unit (s := S2x512x1024) ![0, 0, 0] S1x512x1024.size inb_S2x512x1024_S1x512x1024_0_0_0).toLoadRect (m ((c : Thread nD τ).loc main_arg2))
def u1v (c : Dev nD) : Vec F S1x512x1024 .f32 :=
  w1M.view.readAt (Elt F) (Rect.unit (s := S2x512x1024) ![1, 0, 0] S1x512x1024.size inb_S2x512x1024_S1x512x1024_1_0_0).toLoadRect (m ((c : Thread nD τ).loc main_arg2))
def d0v (c : Dev nD) : Vec F S1x1024x512 .f32 :=
  w2M.view.readAt (Elt F) (Rect.unit (s := S2x1024x512) ![0, 0, 0] S1x1024x512.size inb_S2x1024x512_S1x1024x512_0_0_0).toLoadRect (m ((c : Thread nD τ).loc main_arg3))
def d1v (c : Dev nD) : Vec F S1x1024x512 .f32 :=
  w2M.view.readAt (Elt F) (Rect.unit (s := S2x1024x512) ![1, 0, 0] S1x1024x512.size inb_S2x1024x512_S1x1024x512_1_0_0).toLoadRect (m ((c : Thread nD τ).loc main_arg3))

/-- What the device's own experts give its rows, and the same in the narrower type, as sent to `px c`. -/
def accv (c : Dev nD) : FVec F S128x512 .f32 :=
  k0_pay19 (wtv m c) (k0_pay15 (u1v m c)) (k0_pay16 (d0v m c)) (k0_pay17 (d1v m c)) (xsv m c) (k0_pay18 (u0v m c) (xsv m c))
def esv (c : Dev nD) : Vec F S128x512 .bf16 :=
  k0_pay20 (wtv m c) (k0_pay15 (u1v m c)) (k0_pay16 (d0v m c)) (k0_pay17 (d1v m c)) (xsv m c) (k0_pay18 (u0v m c) (xsv m c))
/-- What the device's experts give the rows that `py c` sent, as sent to `pd c` and back to `py c`. -/
def psv (c : Dev nD) : Vec F S128x512 .bf16 :=
  k0_pay21 (k0_pay14 (u0v m c)) (k0_pay15 (u1v m c)) (k0_pay16 (d0v m c)) (k0_pay17 (d1v m c)) (xsv m (py c)) (wsv m (py c))
/-- The two halves of the result block. -/
def fvv (c : Dev nD) : FVec F S128x512 .f32 := k0_pay22 (accv m c) (psv m (py c))
def fwv (c : Dev nD) : FVec F S128x512 .f32 := k0_pay23 (esv m (px c)) (psv m (pd c))
/-- The result block: its two halves written. -/
def outv (c : Dev nD) : Buf (Elt F) ((c : Thread nD τ).loc main_v1) :=
  (oHalf2 c).view.write (Elt F) ((oHalf1 c).view.write (Elt F) (m ((c : Thread nD τ).loc main_v1)) (fvv m c) Finset.univ) (fwv m c) Finset.univ

/-! ## The schedule -/

/-- Buffer `b` of device `c` whole, at share `q`, holding `f`. -/
abbrev pt (c : Dev nD) (b : Ref sig .tc) (q : PosShare TreeShare) (f : Buf (Elt F) ((Memref.whole b).view.loc (c : Thread nD τ))) : sProp 𝕄 :=
  (Memref.whole b).view.loc (c : Thread nD τ) ↦{q} f
/-- The same, its elements named as a transfer's view of the buffer names them. -/
abbrev ptS (c : Dev nD) (b : Ref sig .tc) (q : PosShare TreeShare) (f : Buf (Elt F) ((Memref.whole b).view.loc (c : Thread nD τ))) : sProp 𝕄 :=
  (Memref.whole b).view.loc (c : Thread nD τ) ↦[(Memref.whole b).view.set]{q} f
/-- Naming the elements by the whole view changes nothing. -/
theorem ptS_eq (c : Dev nD) (b : Ref sig .tc) (q : PosShare TreeShare) (f : Buf (Elt F) ((Memref.whole b).view.loc (c : Thread nD τ))) :
    (ptS c b q f : sProp 𝕄) = pt c b q f := by
  show (_ ↦[(View.whole b).set]{q} f : sProp 𝕄) = _
  rw [View.set_whole]
/-- Buffer `b` of device `c` whole, whatever it holds. -/
abbrev anyPt (c : Dev nD) (b : Ref sig .tc) : sProp 𝕄 :=
  iprop(∃ f : Buf (Elt F) ((Memref.whole b).view.loc (c : Thread nD τ)), (Memref.whole b).view.loc (c : Thread nD τ) ↦{fullShare} f)

/-- Such a claim can be handed over by a semaphore. -/
theorem pt_storable (c : Dev nD) (b : Ref sig .tc) (q : PosShare TreeShare) (f : Buf (Elt F) ((Memref.whole b).view.loc (c : Thread nD τ))) :
    BI.Storable (upEmb : UEmb _ 𝕄) (pt c b q f) :=
  inferInstanceAs (BI.Storable (upEmb : UEmb _ 𝕄) (((c : Thread nD τ).loc b) ↦{q} f))
/-- Such a claim can be handed over by a semaphore. -/
theorem anyPt_storable (c : Dev nD) (b : Ref sig .tc) : BI.Storable (upEmb : UEmb _ 𝕄) (anyPt (F := F) c b) :=
  inferInstanceAs (BI.Storable (upEmb : UEmb _ 𝕄) iprop(∃ f : Buf (Elt F) ((c : Thread nD τ).loc b), ((c : Thread nD τ).loc b) ↦{fullShare} f))

/-- What a peer's signal on `c`'s barrier cell hands over: the peer's buffers that `c` will write into. -/
def barPay (c : Dev nD) (d : Fin 3) : sProp 𝕄 :=
  match d with
  | 0 => iprop(anyPt (py c) cc0_scratch5 ∗ anyPt (py c) cc0_scratch4 ∗ anyPt (py c) cc0_scratch7 ∗ anyPt (py c) cc0_scratch11)
  | 1 => anyPt (px c) cc0_scratch9
  | 2 => anyPt (pd c) cc0_scratch12

/-- What a completed transfer hands over: a departure the lent source back, an arrival the landing buffer filled. -/
def dmaPay (c : Dev nD) (q : DmaSem sig) : sProp 𝕄 :=
  match q.val with
  | 1 => ptS c cc0_scratch3 fullShare.left (xsv m c)
  | 2 => ptS c cc0_stg0_0 fullShare (rv m c)
  | 3 => ptS c cc0_scratch6 fullShare (wsv m c)
  | 4 => ptS c cc0_scratch8 fullShare (esv m c)
  | 5 => ptS c cc0_scratch10 fullShare.right (psv m c)
  | 6 => ptS c cc0_scratch10 fullShare.left (psv m c)
  | 7 => ptS c cc0_scratch4 fullShare (xsv m (py c))
  | 8 => ptS c cc0_scratch5 fullShare (rv m (py c))
  | 9 => ptS c cc0_scratch7 fullShare (wsv m (py c))
  | 10 => ptS c cc0_scratch9 fullShare (esv m (px c))
  | 11 => ptS c cc0_scratch11 fullShare (psv m (py c))
  | 12 => ptS c cc0_scratch12 fullShare (psv m (pd c))
  | _ => iprop(emp)

/-- The credit of the transfer on DMA cell `q`. -/
def dmaAmt (q : DmaSem sig) : ℕ :=
  match q.val with
  | 2 => NR | 8 => NR | 3 => NW | 9 => NW | _ => NX

/-- One round: a barrier cell is paid one unit by each peer, a DMA cell once, by its transfer. -/
def moeRd : Rounds.Schedule (GSem nD τ sig) (Fin 3) 𝕄 where
  duties g r := if r = 0 ∧ g.1.2 = .tc then (match g.2 with | .reg _ => {0, 1, 2} | .dma _ => {0}) else ∅
  unitless _ := False
  amount g _ _ := match g.2 with | .reg _ => 1 | .dma q => dmaAmt q
  payload g _ d := match g.2 with | .reg _ => barPay g.1.1 d | .dma q => dmaPay m g.1.1 q
  amount_pos g _ _ _ := by
    rcases g with ⟨t, s | q⟩
    · exact Nat.one_pos
    · dsimp only [dmaAmt]; split <;> first | exact NR_pos | exact NW_pos | exact NX_pos

instance barPay_storable (c : Dev nD) (d : Fin 3) : BI.Storable (upEmb : UEmb _ 𝕄) (barPay (F := F) c d) := by
  unfold barPay; split
  · haveI := anyPt_storable (F := F) (py c) cc0_scratch5
    haveI := anyPt_storable (F := F) (py c) cc0_scratch4
    haveI := anyPt_storable (F := F) (py c) cc0_scratch7
    haveI := anyPt_storable (F := F) (py c) cc0_scratch11
    infer_instance
  · exact anyPt_storable (px c) cc0_scratch9
  · exact anyPt_storable (pd c) cc0_scratch12
instance dmaPay_storable (c : Dev nD) (q : DmaSem sig) : BI.Storable (upEmb : UEmb _ 𝕄) (dmaPay (F := F) m c q) := by
  unfold dmaPay; split <;> first | (rw [ptS_eq]; exact pt_storable _ _ _ _) | infer_instance
instance moeRd_payload_storable (g : GSem nD τ sig) (r : ℕ) (d : Fin 3) :
    BI.Storable (upEmb : UEmb _ 𝕄) ((moeRd (F := F) m).payload g r d) := by
  rcases g with ⟨t, s | q⟩
  · show BI.Storable upEmb (barPay t.1 d); infer_instance
  · show BI.Storable upEmb (dmaPay m t.1 q); infer_instance

section Tables
variable (c : Dev nD)

/-- The schedule's tables, cell by cell. -/
theorem duties_bar : (moeRd (F := F) m).duties (barCell c) 0 = {0, 1, 2} := rfl
/-- Every transfer's cell has one payer. -/
theorem duties_dma (q : DmaSem sig) : (moeRd (F := F) m).duties (dcell c q) 0 = {0} := rfl
/-- Nothing is owed after the first round. -/
theorem duties_later (g : GSem nD τ sig) : ∀ r, 1 ≤ r → (moeRd (F := F) m).duties g r = ∅ :=
  fun r hr => if_neg fun h => by omega
/-- Every peer pays the barrier one. -/
theorem amount_bar (d : Fin 3) : (moeRd (F := F) m).amount (barCell c) 0 d = 1 := rfl
/-- A transfer pays its cell its credit. -/
theorem amount_dma (q : DmaSem sig) (d : Fin 3) : (moeRd (F := F) m).amount (dcell c q) 0 d = dmaAmt q := rfl
/-- The barrier waits for three. -/
theorem expect_bar : (moeRd (F := F) m).expect (barCell c) 0 = 3 := rfl
/-- A cell waits for its transfer's credit. -/
theorem expect_dma (q : DmaSem sig) : (moeRd (F := F) m).expect (dcell c q) 0 = dmaAmt q := by
  unfold Schedule.expect Schedule.amountOf; rw [duties_dma, Finset.sum_singleton, amount_dma]

/-- What cell 1 is paid. -/
theorem amt1 : dmaAmt 1 = NX := rfl
/-- What cell 2 is paid. -/
theorem amt2 : dmaAmt 2 = NR := rfl
/-- What cell 3 is paid. -/
theorem amt3 : dmaAmt 3 = NW := rfl
/-- What cell 4 is paid. -/
theorem amt4 : dmaAmt 4 = NX := rfl
/-- What cell 5 is paid. -/
theorem amt5 : dmaAmt 5 = NX := rfl
/-- What cell 6 is paid. -/
theorem amt6 : dmaAmt 6 = NX := rfl
/-- What cell 7 is paid. -/
theorem amt7 : dmaAmt 7 = NX := rfl
/-- What cell 8 is paid. -/
theorem amt8 : dmaAmt 8 = NR := rfl
/-- What cell 9 is paid. -/
theorem amt9 : dmaAmt 9 = NW := rfl
/-- What cell 10 is paid. -/
theorem amt10 : dmaAmt 10 = NX := rfl
/-- What cell 11 is paid. -/
theorem amt11 : dmaAmt 11 = NX := rfl
/-- What cell 12 is paid. -/
theorem amt12 : dmaAmt 12 = NX := rfl

/-- What peer 0's signal hands over. -/
theorem payload_bar0 : (moeRd (F := F) m).payload (barCell c) 0 0
    = iprop(anyPt (py c) cc0_scratch5 ∗ anyPt (py c) cc0_scratch4 ∗ anyPt (py c) cc0_scratch7 ∗ anyPt (py c) cc0_scratch11) := rfl
/-- What peer 1's signal hands over. -/
theorem payload_bar1 : (moeRd (F := F) m).payload (barCell c) 0 1 = anyPt (px c) cc0_scratch9 := rfl
/-- What peer 2's signal hands over. -/
theorem payload_bar2 : (moeRd (F := F) m).payload (barCell c) 0 2 = anyPt (pd c) cc0_scratch12 := rfl
/-- What the transfer of cell 1 hands over. -/
theorem payload_dma1 : (moeRd (F := F) m).payload (dcell c 1) 0 0 =
    ((Memref.whole cc0_scratch3).view.loc (c : Thread nD τ) ↦[(Memref.whole cc0_scratch3).view.set]{fullShare.left} (xsv m c)) := rfl
/-- What the transfer of cell 2 hands over. -/
theorem payload_dma2 : (moeRd (F := F) m).payload (dcell c 2) 0 0 =
    ((Memref.whole cc0_stg0_0).view.loc (c : Thread nD τ) ↦[(Memref.whole cc0_stg0_0).view.set]{fullShare} (rv m c)) := rfl
/-- What the transfer of cell 3 hands over. -/
theorem payload_dma3 : (moeRd (F := F) m).payload (dcell c 3) 0 0 =
    ((Memref.whole cc0_scratch6).view.loc (c : Thread nD τ) ↦[(Memref.whole cc0_scratch6).view.set]{fullShare} (wsv m c)) := rfl
/-- What the transfer of cell 4 hands over. -/
theorem payload_dma4 : (moeRd (F := F) m).payload (dcell c 4) 0 0 =
    ((Memref.whole cc0_scratch8).view.loc (c : Thread nD τ) ↦[(Memref.whole cc0_scratch8).view.set]{fullShare} (esv m c)) := rfl
/-- What the transfer of cell 5 hands over. -/
theorem payload_dma5 : (moeRd (F := F) m).payload (dcell c 5) 0 0 =
    ((Memref.whole cc0_scratch10).view.loc (c : Thread nD τ) ↦[(Memref.whole cc0_scratch10).view.set]{fullShare.right} (psv m c)) := rfl
/-- What the transfer of cell 6 hands over. -/
theorem payload_dma6 : (moeRd (F := F) m).payload (dcell c 6) 0 0 =
    ((Memref.whole cc0_scratch10).view.loc (c : Thread nD τ) ↦[(Memref.whole cc0_scratch10).view.set]{fullShare.left} (psv m c)) := rfl
/-- What the transfer of cell 7 hands over. -/
theorem payload_dma7 : (moeRd (F := F) m).payload (dcell c 7) 0 0 =
    ((Memref.whole cc0_scratch4).view.loc (c : Thread nD τ) ↦[(Memref.whole cc0_scratch4).view.set]{fullShare} (xsv m (py c))) := rfl
/-- What the transfer of cell 8 hands over. -/
theorem payload_dma8 : (moeRd (F := F) m).payload (dcell c 8) 0 0 =
    ((Memref.whole cc0_scratch5).view.loc (c : Thread nD τ) ↦[(Memref.whole cc0_scratch5).view.set]{fullShare} (rv m (py c))) := rfl
/-- What the transfer of cell 9 hands over. -/
theorem payload_dma9 : (moeRd (F := F) m).payload (dcell c 9) 0 0 =
    ((Memref.whole cc0_scratch7).view.loc (c : Thread nD τ) ↦[(Memref.whole cc0_scratch7).view.set]{fullShare} (wsv m (py c))) := rfl
/-- What the transfer of cell 10 hands over. -/
theorem payload_dma10 : (moeRd (F := F) m).payload (dcell c 10) 0 0 =
    ((Memref.whole cc0_scratch9).view.loc (c : Thread nD τ) ↦[(Memref.whole cc0_scratch9).view.set]{fullShare} (esv m (px c))) := rfl
/-- What the transfer of cell 11 hands over. -/
theorem payload_dma11 : (moeRd (F := F) m).payload (dcell c 11) 0 0 =
    ((Memref.whole cc0_scratch11).view.loc (c : Thread nD τ) ↦[(Memref.whole cc0_scratch11).view.set]{fullShare} (psv m (py c))) := rfl
/-- What the transfer of cell 12 hands over. -/
theorem payload_dma12 : (moeRd (F := F) m).payload (dcell c 12) 0 0 =
    ((Memref.whole cc0_scratch12).view.loc (c : Thread nD τ) ↦[(Memref.whole cc0_scratch12).view.set]{fullShare} (psv m (pd c))) := rfl

end Tables

/-! ## What a device owes at launch, and the levels -/

/-- Six arrivals and three barrier units, in the reverse of the order in which they are paid. -/
def O₀ (c : Dev nD) : CellTallies nD τ sig Unit :=
  tallyAt (dcell (py c) 11) () NX + tallyAt (dcell (pd c) 12) () NX + tallyAt (dcell (px c) 10) () NX + tallyAt (dcell (py c) 9) () NW
    + tallyAt (dcell (py c) 7) () NX + tallyAt (dcell (py c) 8) () NR
    + tallyAt (barCell (pd c)) () 1 + tallyAt (barCell (px c)) () 1 + tallyAt (barCell (py c)) () 1

def L (g : GSem nD τ sig) : Finset Unit := if g.1.2 = .tc then {()} else ∅
def dlv (q : ℕ) : ℕ := match q with | 7 => 3 | 8 => 2 | 9 => 3 | 10 => 3 | 11 => 4 | 12 => 4 | _ => 0
def lv (g : GSem nD τ sig) (_ : Unit) : ℕ := match g.2 with | .reg _ => 1 | .dma q => dlv q.val

/-- The level of such a cell. -/
theorem lv_dma (c : Dev nD) (q : DmaSem sig) : lv (dcell c q) () = dlv q.val := rfl
/-- The level of such a cell. -/
theorem lv_bar (c : Dev nD) : lv (barCell c) () = 1 := rfl
/-- Only the kernel's threads have levels. -/
theorem L_of_ne (g : GSem nD τ sig) (h : g.1.2 ≠ .tc) : L g = ∅ := if_neg h

/-- Everything owed in `O` is to a TensorCore's cell of level above `n`. -/
def Above (n : ℕ) (O : CellTallies nD τ sig Unit) : Prop := ∀ g u, 0 < O g u → g.1.2 = .tc ∧ n < lv g u

/-- A debt to one cell of a higher level. -/
theorem above_tally {n k : ℕ} {g : GSem nD τ sig} (h1 : g.1.2 = .tc) (h2 : n < lv g ()) : Above n (tallyAt g () k) := by
  intro g' u h
  rw [tallyAt_apply] at h
  by_cases hg : g' = g ∧ u = ()
  · rw [hg.1]; exact ⟨h1, h2⟩
  · rw [if_neg hg] at h; exact absurd h (Nat.lt_irrefl 0)

/-- Two debts, both above a level, are above it together. -/
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

/-- Owing nothing is above every level. -/
theorem above_zero {n : ℕ} : Above n 0 := fun g u h => absurd h (Nat.lt_irrefl 0)

/-- A device may wait on its own cell `sm` while everything it owes is to cells of higher level. -/
theorem mayWait_above (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp]; exact Finset.mem_singleton_self _)
    (fun g u hg => by unfold L; rw [if_pos (h g u hg).1]; exact Finset.mem_singleton_self _)
    (fun p hp => by rw [Finset.mem_singleton.mp hp])
    (fun g u hg => (h g u hg).2)

/-- What a device owes at launch is above the lowest level. -/
theorem above_O₀ (c : Dev nD) : Above 0 (O₀ c) := by
  unfold O₀
  repeat' apply above_add
  all_goals exact above_tally rfl (by first | (rw [lv_dma]; decide) | (rw [lv_bar]; decide))

attribute [irreducible] py px pd

end Cert.Moe

end
-- ==== Proof.Body.lean ====
/-
# One device's run of the kernel

The body at a symbolic device, for any float values, from what the launch deals it to what it hands back: its scratch
buffers and cells at rest, its arguments as they were, the result block holding `outv`.
-/
module

public import proofs.«01_k».proof.Proof.Proto

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

abbrev 𝒱₀ : Variants := Variants.none

/-- The invariants of the cells that device `c` pays or waits on. -/
def invs (c : Dev nD) : sProp 𝕄 :=
  iprop(cellInv EM (moeRd (F := F) m) (K (c, 0)) (barCell c)
    ∗ cellInv EM (moeRd (F := F) m) (K (c, 1)) (dcell c 1)
    ∗ cellInv EM (moeRd (F := F) m) (K (c, 2)) (dcell c 2)
    ∗ cellInv EM (moeRd (F := F) m) (K (c, 3)) (dcell c 3)
    ∗ cellInv EM (moeRd (F := F) m) (K (c, 4)) (dcell c 4)
    ∗ cellInv EM (moeRd (F := F) m) (K (c, 5)) (dcell c 5)
    ∗ cellInv EM (moeRd (F := F) m) (K (c, 6)) (dcell c 6)
    ∗ cellInv EM (moeRd (F := F) m) (K (c, 7)) (dcell c 7)
    ∗ cellInv EM (moeRd (F := F) m) (K (c, 8)) (dcell c 8)
    ∗ cellInv EM (moeRd (F := F) m) (K (c, 9)) (dcell c 9)
    ∗ cellInv EM (moeRd (F := F) m) (K (c, 10)) (dcell c 10)
    ∗ cellInv EM (moeRd (F := F) m) (K (c, 11)) (dcell c 11)
    ∗ cellInv EM (moeRd (F := F) m) (K (c, 12)) (dcell c 12)
    ∗ cellInv EM (moeRd (F := F) m) (K (py c, 0)) (barCell (py c))
    ∗ cellInv EM (moeRd (F := F) m) (K (px c, 0)) (barCell (px c))
    ∗ cellInv EM (moeRd (F := F) m) (K (pd c, 0)) (barCell (pd c))
    ∗ cellInv EM (moeRd (F := F) m) (K (py c, 7)) (dcell (py c) 7)
    ∗ cellInv EM (moeRd (F := F) m) (K (py c, 8)) (dcell (py c) 8)
    ∗ cellInv EM (moeRd (F := F) m) (K (py c, 9)) (dcell (py c) 9)
    ∗ cellInv EM (moeRd (F := F) m) (K (py c, 11)) (dcell (py c) 11)
    ∗ cellInv EM (moeRd (F := F) m) (K (px c, 10)) (dcell (px c) 10)
    ∗ cellInv EM (moeRd (F := F) m) (K (pd c, 12)) (dcell (pd c) 12))
instance invs_persistent (c : Dev nD) : BI.Persistent (invs (F := F) m K c) := by unfold invs; infer_instance

/-- The rounds already reached when it pays. -/
def reach (c : Dev nD) : sProp 𝕄 :=
  iprop(reached EM (dcell c 1) 0
    ∗ reached EM (dcell c 2) 0
    ∗ reached EM (dcell c 3) 0
    ∗ reached EM (dcell c 4) 0
    ∗ reached EM (dcell c 5) 0
    ∗ reached EM (dcell c 6) 0
    ∗ reached EM (barCell (py c)) 0
    ∗ reached EM (barCell (px c)) 0
    ∗ reached EM (barCell (pd c)) 0
    ∗ reached EM (dcell (py c) 7) 0
    ∗ reached EM (dcell (py c) 8) 0
    ∗ reached EM (dcell (py c) 9) 0
    ∗ reached EM (dcell (py c) 11) 0
    ∗ reached EM (dcell (px c) 10) 0
    ∗ reached EM (dcell (pd c) 12) 0)
instance reach_persistent (c : Dev nD) : BI.Persistent (reach (F := F) c) := by unfold reach; infer_instance

/-- Its positions on its own cells. -/
def poss (c : Dev nD) : sProp 𝕄 :=
  iprop(atPos EM (barCell c) 0 ∅ 0
    ∗ atPos EM (dcell c 1) 0 ∅ 0
    ∗ atPos EM (dcell c 2) 0 ∅ 0
    ∗ atPos EM (dcell c 3) 0 ∅ 0
    ∗ atPos EM (dcell c 4) 0 ∅ 0
    ∗ atPos EM (dcell c 5) 0 ∅ 0
    ∗ atPos EM (dcell c 6) 0 ∅ 0
    ∗ atPos EM (dcell c 7) 0 ∅ 0
    ∗ atPos EM (dcell c 8) 0 ∅ 0
    ∗ atPos EM (dcell c 9) 0 ∅ 0
    ∗ atPos EM (dcell c 10) 0 ∅ 0
    ∗ atPos EM (dcell c 11) 0 ∅ 0
    ∗ atPos EM (dcell c 12) 0 ∅ 0)
/-- The tokens of the payments it makes. -/
def paytoks (c : Dev nD) : sProp 𝕄 :=
  iprop(dutyTok EM (barCell (py c)) 0 0
    ∗ dutyTok EM (barCell (px c)) 0 1
    ∗ dutyTok EM (barCell (pd c)) 0 2
    ∗ dutyTok EM (dcell c 1) 0 0
    ∗ dutyTok EM (dcell c 2) 0 0
    ∗ dutyTok EM (dcell c 3) 0 0
    ∗ dutyTok EM (dcell c 4) 0 0
    ∗ dutyTok EM (dcell c 5) 0 0
    ∗ dutyTok EM (dcell c 6) 0 0
    ∗ dutyTok EM (dcell (py c) 7) 0 0
    ∗ dutyTok EM (dcell (py c) 8) 0 0
    ∗ dutyTok EM (dcell (py c) 9) 0 0
    ∗ dutyTok EM (dcell (py c) 11) 0 0
    ∗ dutyTok EM (dcell (px c) 10) 0 0
    ∗ dutyTok EM (dcell (pd c) 12) 0 0)
/-- What arrives is credited to it at launch. -/
def credits (c : Dev nD) : sProp 𝕄 :=
  iprop(cred (tallyAt (barCell c) () 3)
    ∗ cred (tallyAt (dcell c 7) () NX)
    ∗ cred (tallyAt (dcell c 8) () NR)
    ∗ cred (tallyAt (dcell c 9) () NW)
    ∗ cred (tallyAt (dcell c 10) () NX)
    ∗ cred (tallyAt (dcell c 11) () NX)
    ∗ cred (tallyAt (dcell c 12) () NX))
/-- The counters of its local copies' cells. -/
def locals0 (c : Dev nD) : sProp 𝕄 :=
  iprop(semVal (dcell c 13) 0 ∗ semVal (dcell c 14) 0 ∗ semVal (dcell c 15) 0 ∗ semVal (dcell c 16) 0 ∗ semVal (dcell c 17) 0)
/-- Its scratch buffers, whatever they hold. -/
def scratch (c : Dev nD) : sProp 𝕄 :=
  iprop(anyPt (F := F) c cc0_scratch0 ∗ anyPt (F := F) c cc0_scratch1 ∗ anyPt (F := F) c cc0_scratch2 ∗ anyPt (F := F) c cc0_scratch3 ∗ anyPt (F := F) c cc0_scratch4 ∗ anyPt (F := F) c cc0_scratch5 ∗ anyPt (F := F) c cc0_scratch6 ∗ anyPt (F := F) c cc0_scratch7 ∗ anyPt (F := F) c cc0_scratch8 ∗ anyPt (F := F) c cc0_scratch9 ∗ anyPt (F := F) c cc0_scratch10 ∗ anyPt (F := F) c cc0_scratch11 ∗ anyPt (F := F) c cc0_scratch12 ∗ anyPt (F := F) c cc0_scratch13 ∗ anyPt (F := F) c cc0_scratch14)
/-- Its arguments. -/
def args (c : Dev nD) : sProp 𝕄 :=
  iprop(pt c main_arg0 fullShare (m ((c : Thread nD τ).loc main_arg0)) ∗ pt c main_arg2 fullShare (m ((c : Thread nD τ).loc main_arg2)) ∗ pt c main_arg3 fullShare (m ((c : Thread nD τ).loc main_arg3)))

/-! ### The kernel's semaphores by number -/

@[sl_canon] theorem sem1 : ((cc0_scratch15.slice (Rect.unit (s := S6) ![0] ![1] inb_S6_S1_0)).squeeze S_ squeezes_S1_S_).sem = (1 : DmaSem sig) := rfl
@[sl_canon] theorem sem7 : ((cc0_scratch16.slice (Rect.unit (s := S6) ![0] ![1] inb_S6_S1_0)).squeeze S_ squeezes_S1_S_).sem = (7 : DmaSem sig) := rfl
@[sl_canon] theorem sem2 : ((cc0_scratch15.slice (Rect.unit (s := S6) ![1] ![1] inb_S6_S1_1)).squeeze S_ squeezes_S1_S_).sem = (2 : DmaSem sig) := rfl
@[sl_canon] theorem sem8 : ((cc0_scratch16.slice (Rect.unit (s := S6) ![1] ![1] inb_S6_S1_1)).squeeze S_ squeezes_S1_S_).sem = (8 : DmaSem sig) := rfl
@[sl_canon] theorem sem3 : ((cc0_scratch15.slice (Rect.unit (s := S6) ![2] ![1] inb_S6_S1_2)).squeeze S_ squeezes_S1_S_).sem = (3 : DmaSem sig) := rfl
@[sl_canon] theorem sem9 : ((cc0_scratch16.slice (Rect.unit (s := S6) ![2] ![1] inb_S6_S1_2)).squeeze S_ squeezes_S1_S_).sem = (9 : DmaSem sig) := rfl
@[sl_canon] theorem sem4 : ((cc0_scratch15.slice (Rect.unit (s := S6) ![3] ![1] inb_S6_S1_3)).squeeze S_ squeezes_S1_S_).sem = (4 : DmaSem sig) := rfl
@[sl_canon] theorem sem10 : ((cc0_scratch16.slice (Rect.unit (s := S6) ![3] ![1] inb_S6_S1_3)).squeeze S_ squeezes_S1_S_).sem = (10 : DmaSem sig) := rfl
@[sl_canon] theorem sem5 : ((cc0_scratch15.slice (Rect.unit (s := S6) ![4] ![1] inb_S6_S1_4)).squeeze S_ squeezes_S1_S_).sem = (5 : DmaSem sig) := rfl
@[sl_canon] theorem sem11 : ((cc0_scratch16.slice (Rect.unit (s := S6) ![4] ![1] inb_S6_S1_4)).squeeze S_ squeezes_S1_S_).sem = (11 : DmaSem sig) := rfl
@[sl_canon] theorem sem6 : ((cc0_scratch15.slice (Rect.unit (s := S6) ![5] ![1] inb_S6_S1_5)).squeeze S_ squeezes_S1_S_).sem = (6 : DmaSem sig) := rfl
@[sl_canon] theorem sem12 : ((cc0_scratch16.slice (Rect.unit (s := S6) ![5] ![1] inb_S6_S1_5)).squeeze S_ squeezes_S1_S_).sem = (12 : DmaSem sig) := rfl
@[sl_canon] theorem sem13 : ((cc0_scratch17.slice (Rect.unit (s := S5) ![0] ![1] inb_S5_S1_0)).squeeze S_ squeezes_S1_S_).sem = (13 : DmaSem sig) := rfl
@[sl_canon] theorem sem14 : ((cc0_scratch17.slice (Rect.unit (s := S5) ![1] ![1] inb_S5_S1_1)).squeeze S_ squeezes_S1_S_).sem = (14 : DmaSem sig) := rfl
@[sl_canon] theorem sem15 : ((cc0_scratch17.slice (Rect.unit (s := S5) ![2] ![1] inb_S5_S1_2)).squeeze S_ squeezes_S1_S_).sem = (15 : DmaSem sig) := rfl
@[sl_canon] theorem sem16 : ((cc0_scratch17.slice (Rect.unit (s := S5) ![3] ![1] inb_S5_S1_3)).squeeze S_ squeezes_S1_S_).sem = (16 : DmaSem sig) := rfl
@[sl_canon] theorem sem17 : ((cc0_scratch17.slice (Rect.unit (s := S5) ![4] ![1] inb_S5_S1_4)).squeeze S_ squeezes_S1_S_).sem = (17 : DmaSem sig) := rfl

/-! ### The waits' side conditions -/

section Waits
variable (c : Dev nD)

/-- The wait on the barrier is allowed. -/
theorem mwB : (levAts L lv : sProp 𝕄) ⊢ MayWait (c : Thread nD τ) (.reg barS) ()
    (tallyAt (dcell (py c) 11) () NX + tallyAt (dcell (pd c) 12) () NX + tallyAt (dcell (px c) 10) () NX + tallyAt (dcell (py c) 9) () NW + tallyAt (dcell (py c) 7) () NX + tallyAt (dcell (py c) 8) () NR) :=
  mayWait_above c _ _ (by repeat' apply above_add
                          all_goals exact above_tally rfl (by first | (rw [lv_dma, lv_dma]; decide) | (rw [lv_bar, lv_dma]; decide)))
/-- The wait on cell 15 is allowed. -/
theorem mw15 : (levAts L lv : sProp 𝕄) ⊢ MayWait (c : Thread nD τ) (.dma 15) ()
    (tallyAt (dcell (py c) 11) () NX + tallyAt (dcell (pd c) 12) () NX + tallyAt (dcell (px c) 10) () NX + tallyAt (dcell (py c) 9) () NW + tallyAt (dcell (py c) 7) () NX) :=
  mayWait_above c _ _ (by repeat' apply above_add
                          all_goals exact above_tally rfl (by first | (rw [lv_dma, lv_dma]; decide) | (rw [lv_bar, lv_dma]; decide)))
/-- The wait on cell 2 is allowed. -/
theorem mw2 : (levAts L lv : sProp 𝕄) ⊢ MayWait (c : Thread nD τ) (.dma 2) ()
    (tallyAt (dcell (py c) 11) () NX + tallyAt (dcell (pd c) 12) () NX + tallyAt (dcell (px c) 10) () NX + tallyAt (dcell (py c) 9) () NW) :=
  mayWait_above c _ _ (by repeat' apply above_add
                          all_goals exact above_tally rfl (by first | (rw [lv_dma, lv_dma]; decide) | (rw [lv_bar, lv_dma]; decide)))
/-- The wait on cell 8 is allowed. -/
theorem mw8 : (levAts L lv : sProp 𝕄) ⊢ MayWait (c : Thread nD τ) (.dma 8) ()
    (tallyAt (dcell (py c) 11) () NX + tallyAt (dcell (pd c) 12) () NX + tallyAt (dcell (px c) 10) () NX + tallyAt (dcell (py c) 9) () NW) :=
  mayWait_above c _ _ (by repeat' apply above_add
                          all_goals exact above_tally rfl (by first | (rw [lv_dma, lv_dma]; decide) | (rw [lv_bar, lv_dma]; decide)))
/-- The wait on cell 13 is allowed. -/
theorem mw13 : (levAts L lv : sProp 𝕄) ⊢ MayWait (c : Thread nD τ) (.dma 13) ()
    (tallyAt (dcell (py c) 11) () NX + tallyAt (dcell (pd c) 12) () NX + tallyAt (dcell (px c) 10) () NX) :=
  mayWait_above c _ _ (by repeat' apply above_add
                          all_goals exact above_tally rfl (by first | (rw [lv_dma, lv_dma]; decide) | (rw [lv_bar, lv_dma]; decide)))
/-- The wait on cell 14 is allowed. -/
theorem mw14 : (levAts L lv : sProp 𝕄) ⊢ MayWait (c : Thread nD τ) (.dma 14) ()
    (tallyAt (dcell (py c) 11) () NX + tallyAt (dcell (pd c) 12) () NX + tallyAt (dcell (px c) 10) () NX) :=
  mayWait_above c _ _ (by repeat' apply above_add
                          all_goals exact above_tally rfl (by first | (rw [lv_dma, lv_dma]; decide) | (rw [lv_bar, lv_dma]; decide)))
/-- The wait on cell 1 is allowed. -/
theorem mw1 : (levAts L lv : sProp 𝕄) ⊢ MayWait (c : Thread nD τ) (.dma 1) ()
    (tallyAt (dcell (py c) 11) () NX + tallyAt (dcell (pd c) 12) () NX) :=
  mayWait_above c _ _ (by repeat' apply above_add
                          all_goals exact above_tally rfl (by first | (rw [lv_dma, lv_dma]; decide) | (rw [lv_bar, lv_dma]; decide)))
/-- The wait on cell 7 is allowed. -/
theorem mw7 : (levAts L lv : sProp 𝕄) ⊢ MayWait (c : Thread nD τ) (.dma 7) ()
    (tallyAt (dcell (py c) 11) () NX + tallyAt (dcell (pd c) 12) () NX) :=
  mayWait_above c _ _ (by repeat' apply above_add
                          all_goals exact above_tally rfl (by first | (rw [lv_dma, lv_dma]; decide) | (rw [lv_bar, lv_dma]; decide)))
/-- The wait on cell 3 is allowed. -/
theorem mw3 : (levAts L lv : sProp 𝕄) ⊢ MayWait (c : Thread nD τ) (.dma 3) ()
    (tallyAt (dcell (py c) 11) () NX + tallyAt (dcell (pd c) 12) () NX) :=
  mayWait_above c _ _ (by repeat' apply above_add
                          all_goals exact above_tally rfl (by first | (rw [lv_dma, lv_dma]; decide) | (rw [lv_bar, lv_dma]; decide)))
/-- The wait on cell 9 is allowed. -/
theorem mw9 : (levAts L lv : sProp 𝕄) ⊢ MayWait (c : Thread nD τ) (.dma 9) ()
    (tallyAt (dcell (py c) 11) () NX + tallyAt (dcell (pd c) 12) () NX) :=
  mayWait_above c _ _ (by repeat' apply above_add
                          all_goals exact above_tally rfl (by first | (rw [lv_dma, lv_dma]; decide) | (rw [lv_bar, lv_dma]; decide)))

end Waits

/-- The offsets of a whole access, each zero. -/
theorem off00 : (![0, 0] : Fin 2 → ℕ) = fun _ => 0 := by decide
/-- The offsets of a whole array are zero. -/
theorem off000 : (![0, 0, 0] : Fin 3 → ℕ) = fun _ => 0 := by decide

/-- Whole accesses: a load gives the contents, a store leaves the stored value. -/
theorem rdS (f : (cc0_stg0_0 : Ref sig .tc).ty.Contents (Elt F)) :
    View.readAt (Elt F) (Memref.whole cc0_stg0_0).view (Rect.unit ![0, 0] S512x2.size inb_S512x2_S512x2_0_0).toLoadRect f = f :=
  Memref.readAt_unit_zero (Elt F) cc0_stg0_0 (off := ![0, 0]) off00 inb_S512x2_S512x2_0_0 f
/-- Reading scratch buffer 2 whole gives its contents. -/
theorem rd2 (f : (cc0_scratch2 : Ref sig .tc).ty.Contents (Elt F)) :
    View.readAt (Elt F) (Memref.whole cc0_scratch2).view (Rect.unit ![0, 0] S128x512.size inb_S128x512_S128x512_0_0).toLoadRect f = f :=
  Memref.readAt_unit_zero (Elt F) cc0_scratch2 (off := ![0, 0]) off00 inb_S128x512_S128x512_0_0 f
/-- Reading scratch buffer 3 whole gives its contents. -/
theorem rd3 (f : (cc0_scratch3 : Ref sig .tc).ty.Contents (Elt F)) :
    View.readAt (Elt F) (Memref.whole cc0_scratch3).view (Rect.unit ![0, 0] S128x512.size inb_S128x512_S128x512_0_0).toLoadRect f = f :=
  Memref.readAt_unit_zero (Elt F) cc0_scratch3 (off := ![0, 0]) off00 inb_S128x512_S128x512_0_0 f
/-- Reading scratch buffer 4 whole gives its contents. -/
theorem rd4 (f : (cc0_scratch4 : Ref sig .tc).ty.Contents (Elt F)) :
    View.readAt (Elt F) (Memref.whole cc0_scratch4).view (Rect.unit ![0, 0] S128x512.size inb_S128x512_S128x512_0_0).toLoadRect f = f :=
  Memref.readAt_unit_zero (Elt F) cc0_scratch4 (off := ![0, 0]) off00 inb_S128x512_S128x512_0_0 f
/-- Reading scratch buffer 5 whole gives its contents. -/
theorem rd5 (f : (cc0_scratch5 : Ref sig .tc).ty.Contents (Elt F)) :
    View.readAt (Elt F) (Memref.whole cc0_scratch5).view (Rect.unit ![0, 0] S512x2.size inb_S512x2_S512x2_0_0).toLoadRect f = f :=
  Memref.readAt_unit_zero (Elt F) cc0_scratch5 (off := ![0, 0]) off00 inb_S512x2_S512x2_0_0 f
/-- Reading scratch buffer 6 whole gives its contents. -/
theorem rd6 (f : (cc0_scratch6 : Ref sig .tc).ty.Contents (Elt F)) :
    View.readAt (Elt F) (Memref.whole cc0_scratch6).view (Rect.unit ![0, 0] S128x2.size inb_S128x2_S128x2_0_0).toLoadRect f = f :=
  Memref.readAt_unit_zero (Elt F) cc0_scratch6 (off := ![0, 0]) off00 inb_S128x2_S128x2_0_0 f
/-- Reading scratch buffer 7 whole gives its contents. -/
theorem rd7 (f : (cc0_scratch7 : Ref sig .tc).ty.Contents (Elt F)) :
    View.readAt (Elt F) (Memref.whole cc0_scratch7).view (Rect.unit ![0, 0] S128x2.size inb_S128x2_S128x2_0_0).toLoadRect f = f :=
  Memref.readAt_unit_zero (Elt F) cc0_scratch7 (off := ![0, 0]) off00 inb_S128x2_S128x2_0_0 f
/-- Reading scratch buffer 8 whole gives its contents. -/
theorem rd8 (f : (cc0_scratch8 : Ref sig .tc).ty.Contents (Elt F)) :
    View.readAt (Elt F) (Memref.whole cc0_scratch8).view (Rect.unit ![0, 0] S128x512.size inb_S128x512_S128x512_0_0).toLoadRect f = f :=
  Memref.readAt_unit_zero (Elt F) cc0_scratch8 (off := ![0, 0]) off00 inb_S128x512_S128x512_0_0 f
/-- Reading scratch buffer 9 whole gives its contents. -/
theorem rd9 (f : (cc0_scratch9 : Ref sig .tc).ty.Contents (Elt F)) :
    View.readAt (Elt F) (Memref.whole cc0_scratch9).view (Rect.unit ![0, 0] S128x512.size inb_S128x512_S128x512_0_0).toLoadRect f = f :=
  Memref.readAt_unit_zero (Elt F) cc0_scratch9 (off := ![0, 0]) off00 inb_S128x512_S128x512_0_0 f
/-- Reading scratch buffer 10 whole gives its contents. -/
theorem rd10 (f : (cc0_scratch10 : Ref sig .tc).ty.Contents (Elt F)) :
    View.readAt (Elt F) (Memref.whole cc0_scratch10).view (Rect.unit ![0, 0] S128x512.size inb_S128x512_S128x512_0_0).toLoadRect f = f :=
  Memref.readAt_unit_zero (Elt F) cc0_scratch10 (off := ![0, 0]) off00 inb_S128x512_S128x512_0_0 f
/-- Reading scratch buffer 11 whole gives its contents. -/
theorem rd11 (f : (cc0_scratch11 : Ref sig .tc).ty.Contents (Elt F)) :
    View.readAt (Elt F) (Memref.whole cc0_scratch11).view (Rect.unit ![0, 0] S128x512.size inb_S128x512_S128x512_0_0).toLoadRect f = f :=
  Memref.readAt_unit_zero (Elt F) cc0_scratch11 (off := ![0, 0]) off00 inb_S128x512_S128x512_0_0 f
/-- Reading scratch buffer 12 whole gives its contents. -/
theorem rd12 (f : (cc0_scratch12 : Ref sig .tc).ty.Contents (Elt F)) :
    View.readAt (Elt F) (Memref.whole cc0_scratch12).view (Rect.unit ![0, 0] S128x512.size inb_S128x512_S128x512_0_0).toLoadRect f = f :=
  Memref.readAt_unit_zero (Elt F) cc0_scratch12 (off := ![0, 0]) off00 inb_S128x512_S128x512_0_0 f
/-- Reading scratch buffer 13 whole gives its contents. -/
theorem rd13 (f : (cc0_scratch13 : Ref sig .tc).ty.Contents (Elt F)) :
    View.readAt (Elt F) (Memref.whole cc0_scratch13).view (Rect.unit ![0, 0] S128x512.size inb_S128x512_S128x512_0_0).toLoadRect f = f :=
  Memref.readAt_unit_zero (Elt F) cc0_scratch13 (off := ![0, 0]) off00 inb_S128x512_S128x512_0_0 f
/-- Reading scratch buffer 14 whole gives its contents. -/
theorem rd14 (f : (cc0_scratch14 : Ref sig .tc).ty.Contents (Elt F)) :
    View.readAt (Elt F) (Memref.whole cc0_scratch14).view (Rect.unit ![0, 0] S128x512.size inb_S128x512_S128x512_0_0).toLoadRect f = f :=
  Memref.readAt_unit_zero (Elt F) cc0_scratch14 (off := ![0, 0]) off00 inb_S128x512_S128x512_0_0 f
/-- Writing scratch buffer 3 whole leaves what was written. -/
theorem wr3 (f w : (cc0_scratch3 : Ref sig .tc).ty.Contents (Elt F)) :
    (Memref.whole cc0_scratch3).view.writes (Elt F) f [⟨Rect.unit ![0, 0] S128x512.size inb_S128x512_S128x512_0_0, w⟩] = w :=
  Memref.write_access_unit_zero_univ (Elt F) cc0_scratch3 (off := ![0, 0]) off00 inb_S128x512_S128x512_0_0 f w
/-- Writing scratch buffer 6 whole leaves what was written. -/
theorem wr6 (f w : (cc0_scratch6 : Ref sig .tc).ty.Contents (Elt F)) :
    (Memref.whole cc0_scratch6).view.writes (Elt F) f [⟨Rect.unit ![0, 0] S128x2.size inb_S128x2_S128x2_0_0, w⟩] = w :=
  Memref.write_access_unit_zero_univ (Elt F) cc0_scratch6 (off := ![0, 0]) off00 inb_S128x2_S128x2_0_0 f w
/-- Writing scratch buffer 8 whole leaves what was written. -/
theorem wr8 (f w : (cc0_scratch8 : Ref sig .tc).ty.Contents (Elt F)) :
    (Memref.whole cc0_scratch8).view.writes (Elt F) f [⟨Rect.unit ![0, 0] S128x512.size inb_S128x512_S128x512_0_0, w⟩] = w :=
  Memref.write_access_unit_zero_univ (Elt F) cc0_scratch8 (off := ![0, 0]) off00 inb_S128x512_S128x512_0_0 f w
/-- Writing scratch buffer 10 whole leaves what was written. -/
theorem wr10 (f w : (cc0_scratch10 : Ref sig .tc).ty.Contents (Elt F)) :
    (Memref.whole cc0_scratch10).view.writes (Elt F) f [⟨Rect.unit ![0, 0] S128x512.size inb_S128x512_S128x512_0_0, w⟩] = w :=
  Memref.write_access_unit_zero_univ (Elt F) cc0_scratch10 (off := ![0, 0]) off00 inb_S128x512_S128x512_0_0 f w
/-- Writing scratch buffer 13 whole leaves what was written. -/
theorem wr13 (f w : (cc0_scratch13 : Ref sig .tc).ty.Contents (Elt F)) :
    (Memref.whole cc0_scratch13).view.writes (Elt F) f [⟨Rect.unit ![0, 0] S128x512.size inb_S128x512_S128x512_0_0, w⟩] = w :=
  Memref.write_access_unit_zero_univ (Elt F) cc0_scratch13 (off := ![0, 0]) off00 inb_S128x512_S128x512_0_0 f w
/-- Writing scratch buffer 14 whole leaves what was written. -/
theorem wr14 (f w : (cc0_scratch14 : Ref sig .tc).ty.Contents (Elt F)) :
    (Memref.whole cc0_scratch14).view.writes (Elt F) f [⟨Rect.unit ![0, 0] S128x512.size inb_S128x512_S128x512_0_0, w⟩] = w :=
  Memref.write_access_unit_zero_univ (Elt F) cc0_scratch14 (off := ![0, 0]) off00 inb_S128x512_S128x512_0_0 f w

/-- A copy onto a whole buffer leaves what it carried. -/
theorem landed (b : Ref sig .tc) (f w : b.ty.Contents (Elt F)) : View.write (Elt F) (Memref.whole b).view f w Finset.univ = w :=
  View.write_whole_univ b f w

/-- A resource laid aside while another transfer takes the same buffer's other half. -/
def aside (P : sProp 𝕄) : sProp 𝕄 := P
/-- Setting a claim aside does not change it. -/
theorem aside_eq (P : sProp 𝕄) : aside P = P := rfl

/-- The two halves of the result block share no element. -/
theorem halves_disjoint (c : Dev nD) : Disjoint (oHalf1 c).view.set (oHalf2 c).view.set := by
  refine View.disjoint_slice_of_sep (View.whole main_v1) (Rect.unit (s := S256x512) (k0_off1 c) S128x512.size (k0_off1_inb c))
    (Rect.unit (s := S256x512) (k0_off2 c) S128x512.size (k0_off2_inb c)) (0 : Fin 2) rfl rfl ?_
  have h1 : k0_off1 c 0 = 128 * (c.val / 2) := congrFun (k0_off1_eq c) 0
  have h2 : k0_off2 c 0 = 128 - 128 * (c.val / 2) := congrFun (k0_off2_eq c) 0
  have hc : c.val < 4 := c.isLt
  show k0_off1 c 0 + 128 ≤ k0_off2 c 0 ∨ k0_off2 c 0 + 128 ≤ k0_off1 c 0
  rw [h1, h2]; omega

/-- What the three signals on `c`'s barrier cell hand over together. -/
def barAll (c : Dev nD) : sProp 𝕄 :=
  iprop((anyPt (py c) cc0_scratch5 ∗ anyPt (py c) cc0_scratch4 ∗ anyPt (py c) cc0_scratch7 ∗ anyPt (py c) cc0_scratch11)
    ∗ anyPt (px c) cc0_scratch9 ∗ anyPt (pd c) cc0_scratch12)

/-- The three signals' payloads, together. -/
theorem barAll_eq (c : Dev nD) : BI.sep (iprop(anyPt (F := F) (py c) cc0_scratch5 ∗ anyPt (py c) cc0_scratch4 ∗ anyPt (py c) cc0_scratch7 ∗ anyPt (py c) cc0_scratch11))
    (BI.sep (anyPt (px c) cc0_scratch9) (anyPt (pd c) cc0_scratch12)) = barAll (F := F) c := rfl

attribute [local sl_rounds] duties_bar duties_dma amount_bar amount_dma expect_bar expect_dma
  amt1 amt2 amt3 amt4 amt5 amt6 amt7 amt8 amt9 amt10 amt11 amt12
  payload_bar0 payload_bar1 payload_bar2 payload_dma1 payload_dma2 payload_dma3 payload_dma4 payload_dma5 payload_dma6
  payload_dma7 payload_dma8 payload_dma9 payload_dma10 payload_dma11 payload_dma12 py_py px_px pd_pd

/-- The round cells' counters at zero. -/
def rest13 (c : Dev nD) : sProp 𝕄 :=
  iprop(semVal (barCell c) 0 ∗ semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ semVal (dcell c 12) 0)

/-- What a device has when its body returns: every counter at zero, its scratch buffers, its arguments and the staged
    columns as they were, the result block holding `outv`, nothing owed. -/
def done (c : Dev nD) : sProp 𝕄 :=
  iprop((rest13 c ∗ locals0 c ∗ scratch c) ∗ args m c
    ∗ pt c main_v1 fullShare (outv m c) ∗ pt c cc0_stg0_0 fullShare (rv m c) ∗ (∃ W', owes (c : Thread nD τ) 0 W'))

set_option maxHeartbeats 4000000 in
/-- The body's run, from the launch's deal to `done`. -/
theorem run_body (c : Dev nD) (W : Waits sig Unit) (Kt : PUnit → sProp 𝕄) :
    iprop((invs m K c ∗ reach c ∗ poss c ∗ paytoks c ∗ credits c ∗ locals0 c ∗ levAts L lv ∗ scratch c ∗ args m c
        ∗ pt c main_v1 fullShare (m ((c : Thread nD τ).loc main_v1)) ∗ pt c cc0_stg0_0 fullShare (rv m c) ∗ owes (c : Thread nD τ) (O₀ c) W)
        ∗ (done m c -∗ Kt ⟨⟩))
      ⊢ wp frame (wpE (defs₀ (F := F)) 𝒱₀ c none) Set.univ (bodyAt0 (F := F) t0_0) Kt := by
  show _ ⊢ wp frame (wpE (defs₀ (F := F)) 𝒱₀ c none) Set.univ (cc0_body (F := F) (Memref.whole main_arg0) (Memref.isWhole_whole _) (Memref.whole cc0_stg0_0) (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17) Kt
  rw [cc0_body_eq_skeleton]; unfold cc0_body_skel
  simp only [k0_part1_eq_skeleton]
  unfold k0_part1_skel
  simp only [sem1, sem7, sem2, sem8, sem3, sem9, sem4, sem10, sem5, sem11, sem6, sem12, sem13, sem14, sem15, sem16, sem17]
  unfold invs reach poss paytoks credits locals0 scratch args O₀
  iintro ⟨⟨⟨#IB, #I1, #I2, #I3, #I4, #I5, #I6, #I7, #I8, #I9, #I10, #I11, #I12, #IBpy, #IBpx, #IBpd, #I7p, #I8p, #I9p, #I11p, #I10p, #I12p⟩, ⟨#R1, #R2, #R3, #R4, #R5, #R6, #RBpy, #RBpx, #RBpd, #R7p, #R8p, #R9p, #R11p, #R10p, #R12p⟩, ⟨AB, A1, A2, A3, A4, A5, A6, A7, A8, A9, A10, A11, A12⟩, ⟨TBpy, TBpx, TBpd, T1, T2, T3, T4, T5, T6, T7p, T8p, T9p, T11p, T10p, T12p⟩, ⟨CB, C7, C8, C9, C10, C11, C12⟩, ⟨Z13, Z14, Z15, Z16, Z17⟩, #Hlev, ⟨⟨%f0, H0⟩, ⟨%f1, H1⟩, ⟨%f2, H2⟩, ⟨%f3, H3⟩, H4, H5, ⟨%f6, H6⟩, H7, ⟨%f8, H8⟩, H9, ⟨%f10, H10⟩, H11, H12, ⟨%f13, H13⟩, ⟨%f14, H14⟩⟩, ⟨X0, X2, X3⟩, V1, ST, HO⟩, Hk⟩
  have hd1 := dev1_eq c
  have hd2 := dev2_eq c
  have hd3 := dev3_eq c
  have hmwB := mwB (F := F) c
  have hmw15 := mw15 (F := F) c
  have hmw2 := mw2 (F := F) c
  have hmw8 := mw8 (F := F) c
  have hmw13 := mw13 (F := F) c
  have hmw14 := mw14 (F := F) c
  have hmw1 := mw1 (F := F) c
  have hmw7 := mw7 (F := F) c
  have hmw3 := mw3 (F := F) c
  have hmw9 := mw9 (F := F) c
  have hd4 := dev4_eq c
  have hd5 := dev5_eq c
  sl_exec
  ihave AB_pay := (Entails.of_eq (barAll_eq (F := F) c)) $$ AB_pay1
  unfold barAll
  ihave ST := (Entails.of_eq (ptS_eq c cc0_stg0_0 fullShare (rv m c)).symm) $$ ST
  unfold ptS
  icases AB_pay with ⟨⟨⟨%g5, H5⟩, ⟨%g4, H4⟩, D7, D11⟩, D9, D12⟩
  sl_exec
  have hrS := rdS (F := F)
  have hr3 := rd3 (F := F)
  have hr4 := rd4 (F := F)
  have hr5 := rd5 (F := F)
  have hr7 := rd7 (F := F)
  have hr9 := rd9 (F := F)
  have hr10 := rd10 (F := F)
  have hr11 := rd11 (F := F)
  have hr12 := rd12 (F := F)
  have hw0 : ∀ f, View.readAt (Elt F) (Memref.whole cc0_scratch0).view (Rect.unit (s := S2x512x1024) ![0, 0, 0] S1x512x1024.size inb_S2x512x1024_S1x512x1024_0_0_0).toLoadRect
      (View.write (Elt F) (Memref.whole cc0_scratch0).view f (run_body.sl.dma0 m c) Finset.univ) = u0v m c :=
    fun f => by rw [landed]; rfl
  have hw1 : ∀ f, View.readAt (Elt F) (Memref.whole cc0_scratch0).view (Rect.unit (s := S2x512x1024) ![1, 0, 0] S1x512x1024.size inb_S2x512x1024_S1x512x1024_1_0_0).toLoadRect
      (View.write (Elt F) (Memref.whole cc0_scratch0).view f (run_body.sl.dma0 m c) Finset.univ) = u1v m c :=
    fun f => by rw [landed]; rfl
  have hw2 : ∀ f, View.readAt (Elt F) (Memref.whole cc0_scratch1).view (Rect.unit (s := S2x1024x512) ![0, 0, 0] S1x1024x512.size inb_S2x1024x512_S1x1024x512_0_0_0).toLoadRect
      (View.write (Elt F) (Memref.whole cc0_scratch1).view f (run_body.sl.dma0_1 m c) Finset.univ) = d0v m c :=
    fun f => by rw [landed]; rfl
  have hw3 : ∀ f, View.readAt (Elt F) (Memref.whole cc0_scratch1).view (Rect.unit (s := S2x1024x512) ![1, 0, 0] S1x1024x512.size inb_S2x1024x512_S1x1024x512_1_0_0).toLoadRect
      (View.write (Elt F) (Memref.whole cc0_scratch1).view f (run_body.sl.dma0_1 m c) Finset.univ) = d1v m c :=
    fun f => by rw [landed]; rfl
  have hdj := halves_disjoint c
  have hxh : ∀ f, View.readAt (Elt F) (Memref.whole cc0_scratch2).view (Rect.unit ![0, 0] S128x512.size inb_S128x512_S128x512_0_0).toLoadRect
      (View.write (Elt F) (Memref.whole cc0_scratch2).view f (run_body.sl.dma0_2 m c) Finset.univ) = xhv m c :=
    fun f => (rd2 _).trans (View.write_whole_univ _ _ _)
  have e3 : (Memref.whole cc0_scratch3).view.writes (Elt F) f3 [⟨Rect.unit ![0, 0] S128x512.size inb_S128x512_S128x512_0_0, k0_pay1 (run_body.sl.v44 m c f2)⟩] = xsv m c := by
    rw [show run_body.sl.v44 m c f2 = xhv m c from hxh f2]
    exact wr3 f3 (xsv m c)
  rw [e3]
  ihave H3 := (pointsTo_share (PosShare.mem_left_op_right fullShare)).1 $$ H3
  icases H3 with ⟨H3, H3r⟩
  sl_exec
  have e6 : (Memref.whole cc0_scratch6).view.writes (Elt F) f6 [⟨Rect.unit ![0, 0] S128x2.size inb_S128x2_S128x2_0_0,
      k0_pay13 (run_body.sl.r m c) (run_body.sl.r_1 m c) (run_body.sl.r_2 m c) k0_pay11⟩] = wsv m c := wr6 f6 (wsv m c)
  rw [e6]
  ihave H6 := (Entails.of_eq (ptS_eq c cc0_scratch6 fullShare (wsv m c)).symm) $$ H6
  unfold ptS
  icases D7 with ⟨%g7, H7⟩
  sl_exec
  have e8 : (Memref.whole cc0_scratch8).view.writes (Elt F) f8 [⟨Rect.unit ![0, 0] S128x512.size inb_S128x512_S128x512_0_0,
      k0_pay20 (run_body.sl.r_3 m c) (run_body.sl.r_5 m c) (run_body.sl.r_6 m c) (run_body.sl.r_7 m c) (xsv m c) (run_body.sl.r_8 m c)⟩] = esv m c :=
    wr8 f8 (esv m c)
  rw [e8]
  ihave H8 := (Entails.of_eq (ptS_eq c cc0_scratch8 fullShare (esv m c)).symm) $$ H8
  unfold ptS
  icases D9 with ⟨%g9, H9⟩
  sl_exec
  have e10 : (Memref.whole cc0_scratch10).view.writes (Elt F) f10 [⟨Rect.unit ![0, 0] S128x512.size inb_S128x512_S128x512_0_0,
      k0_pay21 (run_body.sl.r_4 m c) (run_body.sl.r_5 m c) (run_body.sl.r_6 m c) (run_body.sl.r_7 m c) (xsv m (py c)) (wsv m (py c))⟩] = psv m c :=
    wr10 f10 (psv m c)
  rw [e10]
  ihave H10 := (pointsTo_share (PosShare.mem_left_op_right fullShare)).1 $$ H10
  icases H10 with ⟨H10, H10r⟩
  ihave H10 := (Entails.of_eq (ptS_eq c cc0_scratch10 fullShare.left (psv m c)).symm) $$ H10
  unfold ptS
  ihave H10r := (Entails.of_eq (aside_eq (pt (F := F) c cc0_scratch10 fullShare.right (psv m c))).symm) $$ H10r
  icases D12 with ⟨%g12, H12⟩
  sl_exec
  ihave H10r := (Entails.of_eq (aside_eq (pt (F := F) c cc0_scratch10 fullShare.right (psv m c)))) $$ H10r
  ihave H10r := (Entails.of_eq (ptS_eq c cc0_scratch10 fullShare.right (psv m c)).symm) $$ H10r
  unfold ptS
  icases D11 with ⟨%g11, H11⟩
  sl_exec
  have ev : run_body.sl.V1_w2 m c f13 f14 = outv m c := by
    unfold run_body.sl.V1_w2 run_body.sl.V1_w1
    rw [show run_body.sl.dma7 m c f14 = fwv m c from wr14 f14 (fwv m c), show run_body.sl.dma3 m c f13 = fvv m c from wr13 f13 (fvv m c)]
    rfl
  rw [ev]
  -- the cells close: their counters at zero are the device's again
  imod (Rounds.cell_close EM (moeRd (F := F) m) (Set.mem_univ (K (c, 0))) (fun h => h) (R := 0 + 1) (duties_later m (barCell c))) $$ [AB] with Y0
  · isplitr; · iexact IB
    iexact AB
  imod (Rounds.cell_close EM (moeRd (F := F) m) (Set.mem_univ (K (c, 1))) (fun h => h) (R := 0 + 1) (duties_later m (dcell c 1))) $$ [A1] with Y1
  · isplitr; · iexact I1
    iexact A1
  imod (Rounds.cell_close EM (moeRd (F := F) m) (Set.mem_univ (K (c, 2))) (fun h => h) (R := 0 + 1) (duties_later m (dcell c 2))) $$ [A2] with Y2
  · isplitr; · iexact I2
    iexact A2
  imod (Rounds.cell_close EM (moeRd (F := F) m) (Set.mem_univ (K (c, 3))) (fun h => h) (R := 0 + 1) (duties_later m (dcell c 3))) $$ [A3] with Y3
  · isplitr; · iexact I3
    iexact A3
  imod (Rounds.cell_close EM (moeRd (F := F) m) (Set.mem_univ (K (c, 4))) (fun h => h) (R := 0 + 1) (duties_later m (dcell c 4))) $$ [A4] with Y4
  · isplitr; · iexact I4
    iexact A4
  imod (Rounds.cell_close EM (moeRd (F := F) m) (Set.mem_univ (K (c, 5))) (fun h => h) (R := 0 + 1) (duties_later m (dcell c 5))) $$ [A5] with Y5
  · isplitr; · iexact I5
    iexact A5
  imod (Rounds.cell_close EM (moeRd (F := F) m) (Set.mem_univ (K (c, 6))) (fun h => h) (R := 0 + 1) (duties_later m (dcell c 6))) $$ [A6] with Y6
  · isplitr; · iexact I6
    iexact A6
  imod (Rounds.cell_close EM (moeRd (F := F) m) (Set.mem_univ (K (c, 7))) (fun h => h) (R := 0 + 1) (duties_later m (dcell c 7))) $$ [A7] with Y7
  · isplitr; · iexact I7
    iexact A7
  imod (Rounds.cell_close EM (moeRd (F := F) m) (Set.mem_univ (K (c, 8))) (fun h => h) (R := 0 + 1) (duties_later m (dcell c 8))) $$ [A8] with Y8
  · isplitr; · iexact I8
    iexact A8
  imod (Rounds.cell_close EM (moeRd (F := F) m) (Set.mem_univ (K (c, 9))) (fun h => h) (R := 0 + 1) (duties_later m (dcell c 9))) $$ [A9] with Y9
  · isplitr; · iexact I9
    iexact A9
  imod (Rounds.cell_close EM (moeRd (F := F) m) (Set.mem_univ (K (c, 10))) (fun h => h) (R := 0 + 1) (duties_later m (dcell c 10))) $$ [A10] with Y10
  · isplitr; · iexact I10
    iexact A10
  imod (Rounds.cell_close EM (moeRd (F := F) m) (Set.mem_univ (K (c, 11))) (fun h => h) (R := 0 + 1) (duties_later m (dcell c 11))) $$ [A11] with Y11
  · isplitr; · iexact I11
    iexact A11
  imod (Rounds.cell_close EM (moeRd (F := F) m) (Set.mem_univ (K (c, 12))) (fun h => h) (R := 0 + 1) (duties_later m (dcell c 12))) $$ [A12] with Y12
  · isplitr; · iexact I12
    iexact A12
  -- the lent halves of two sources join
  ihave A1_pay1 := (Entails.of_eq (ptS_eq c cc0_scratch3 fullShare.left (xsv m c))) $$ A1_pay1
  ihave H3 := (pointsTo_share (PosShare.mem_left_op_right fullShare)).2 $$ [A1_pay1 H3r]
  · isplitl [A1_pay1] <;> iassumption
  ihave A5_pay1 := (Entails.of_eq (ptS_eq c cc0_scratch10 fullShare.right (psv m c))) $$ A5_pay1
  ihave A6_pay1 := (Entails.of_eq (ptS_eq c cc0_scratch10 fullShare.left (psv m c))) $$ A6_pay1
  ihave H10 := (pointsTo_share (PosShare.mem_left_op_right fullShare)).2 $$ [A6_pay1 A5_pay1]
  · isplitl [A6_pay1] <;> iassumption
  ihave H4 := (Entails.of_eq (ptS_eq c cc0_scratch4 fullShare (xsv m (py c)))) $$ A7_pay1
  ihave H5 := (Entails.of_eq (ptS_eq c cc0_scratch5 fullShare (rv m (py c)))) $$ A8_pay1
  ihave H6 := (Entails.of_eq (ptS_eq c cc0_scratch6 fullShare (wsv m c))) $$ A3_pay1
  ihave H7 := (Entails.of_eq (ptS_eq c cc0_scratch7 fullShare (wsv m (py c)))) $$ A9_pay1
  ihave H8 := (Entails.of_eq (ptS_eq c cc0_scratch8 fullShare (esv m c))) $$ A4_pay1
  ihave H9 := (Entails.of_eq (ptS_eq c cc0_scratch9 fullShare (esv m (px c)))) $$ A10_pay1
  ihave H11 := (Entails.of_eq (ptS_eq c cc0_scratch11 fullShare (psv m (py c)))) $$ A11_pay1
  ihave H12 := (Entails.of_eq (ptS_eq c cc0_scratch12 fullShare (psv m (pd c)))) $$ A12_pay1
  ihave ST := (Entails.of_eq (ptS_eq c cc0_stg0_0 fullShare (rv m c))) $$ A2_pay1
  rw [wp_ret]; imodintro
  iapply Hk
  unfold done rest13 args scratch locals0
  isplitl [Y0 Y1 Y2 Y3 Y4 Y5 Y6 Y7 Y8 Y9 Y10 Y11 Y12 Z13 Z14 Z15 Z16 Z17 H0 H1 H2 H3 H4 H5 H6 H7 H8 H9 H10 H11 H12 H13 H14]
  · isplitl [Y0 Y1 Y2 Y3 Y4 Y5 Y6 Y7 Y8 Y9 Y10 Y11 Y12]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      isplitl [Y7]; · iexact Y7
      isplitl [Y8]; · iexact Y8
      isplitl [Y9]; · iexact Y9
      isplitl [Y10]; · iexact Y10
      isplitl [Y11]; · iexact Y11
      iexact Y12
    isplitl [Z13 Z14 Z15 Z16 Z17]
    · isplitl [Z13]; · iexact Z13
      isplitl [Z14]; · iexact Z14
      isplitl [Z15]; · iexact Z15
      isplitl [Z16]; · iexact Z16
      iexact Z17
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  isplitl [X0 X2 X3]
  · isplitl [X0]; · iexact X0
    isplitl [X2]; · iexact X2
    iexact X3
  isplitl [V1]; · iexact V1
  isplitl [ST]; · iexact ST
  iexists _; iexact HO

end Cert.Moe

end
-- ==== Proof.Launch.lean ====
/-
# The launch of the mixture-of-experts kernel on the mesh

The body's run put under the pipeline's launch: the cells and tokens minted, every device dealt its own, the tokens
handed to who pays with them, the credits, and the theorem of the whole program's run: every device's result block
holds `outv`, its four arguments are as they were and every semaphore counter is zero.
-/
module

public import proofs.«01_k».proof.Proof.Body

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The protocol's ghost state a device starts with, under some names of the invariants. -/
def ghost (c : Dev nD) : sProp 𝕄 :=
  iprop((∃ K, invs m K c) ∗ reach c ∗ poss c ∗ paytoks c ∗ locals0 c)

/-- What a device starts with: that, its credits, the levels, its arguments and its result block. -/
def start (c : Dev nD) : sProp 𝕄 :=
  iprop(ghost m c ∗ credits c ∗ levAts L lv ∗ args m c ∗ pt c main_v1 fullShare (m ((c : Thread nD τ).loc main_v1)))

/-- Before the body, and after it. -/
def Φ₀ (c : Dev nD) : sProp 𝕄 := iprop(start m c ∗ scratch c)
def Φ₁ (c : Dev nD) : sProp 𝕄 :=
  iprop((rest13 c ∗ locals0 c ∗ scratch c) ∗ args m c ∗ pt c main_v1 fullShare (outv m c))

def dats (_ : Fin 1) (c : Dev nD) : Dat τ (Elt F) Unit ℕ UU ℕ cfg0 c where
  A w := m ((cfg0.win w).arr.view.loc (c : Thread nD τ))
  after w _ := match w with
    | ⟨0, _⟩ => rv m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A product over the one staged operand. -/
theorem bigSep_W (Φ : Fin cfg0.W → sProp 𝕄) : bigSep Finset.univ Φ = iprop(Φ (0 : Fin 1)) := bigSep_W0 Φ

/-- The staged operand is fetched at the one step. -/
theorem fetch_0 (t : Fin cfg0.N) : (cfg0.win (0 : Fin 1)).fetch t = true := by rw [fin_N0 t]; rfl

/-- Owning a whole buffer's contents is its points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (rv m c))

set_option maxRecDepth 4000 in
/-- The library's obligation on the body, by the body's run. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ (bodyAt0 (F := F) t0_0) (fun _ => bodyPost m c)
  unfold bodyPre Φ₀ start ghost Dat.owesAt Pipeline.owesWithin
  iintro ⟨⟨⟨⟨⟨%K, HI⟩, HR, HP, HT, HL⟩, HC, Hlev, HA, HV⟩, HS⟩, ⟨%W, -, HO⟩, ⟨%d, %f, %hf, HX⟩⟩
  have hx : f = rv m c := hf.trans (by unfold Dat.before; rw [if_pos (fetch_0 t0_0)]; rfl)
  subst hx
  iapply (run_body m K c W (fun _ => bodyPost m c))
  isplitr []
  · isplitl [HI]; · iexact HI
    isplitl [HR]; · iexact HR
    isplitl [HP]; · iexact HP
    isplitl [HT]; · iexact HT
    isplitl [HC]; · iexact HC
    isplitl [HL]; · iexact HL
    isplitl [Hlev]; · iexact Hlev
    isplitl [HS]; · iexact HS
    isplitl [HA]; · iexact HA
    isplitl [HV]; · iexact HV
    isplitl [HX]; · iexact HX
    iexact HO
  · unfold done bodyPost Φ₁ Dat.owesAt Pipeline.owesWithin
    iintro ⟨H1, HA, HV, HX, ⟨%W', HO⟩⟩
    isplitl [H1 HA HV]
    · isplitl [H1]; · iexact H1
      isplitl [HA] <;> iassumption
    isplitl [HO]
    · iexists W'
      isplitr; · ipureintro; exact fun _ _ => Or.inl trivial
      iexact HO
    iexists _; isplitr; · (ipureintro; rfl)
    iexact HX

/-! ## The cells and tokens minted -/

/-- The kernel's own semaphores as the launch theorem indexes them. -/
abbrev osem : Fin 17 → SemLoc sig := fun k => .dma ⟨k.val + 1, Nat.lt_of_lt_of_le (Nat.succ_lt_succ k.isLt) (by decide)⟩
/-- The pipeline's own semaphores are its own. -/
theorem ownSemFacts : Pipeline.OwnSemFacts cfg0.spec osem := by decide

/-- The staged operand is held whole. -/
theorem share_eq (c : Dev nD) (w : Fin cfg0.W) : (dats m 0 c).share w = fullShare := by unfold Dat.share; split <;> rfl

/-- The protocol's cells: number 0 the barrier's, `q` the DMA cell `q`. -/
abbrev csem : Fin 13 → SemLoc sig := fun | 0 => .reg barS | 1 => .dma 1 | 2 => .dma 2 | 3 => .dma 3 | 4 => .dma 4 | 5 => .dma 5 | 6 => .dma 6 | 7 => .dma 7 | 8 => .dma 8 | 9 => .dma 9 | 10 => .dma 10 | 11 => .dma 11 | 12 => .dma 12
abbrev kcell (ck : Dev nD × Fin 13) : GSem nD τ sig := ((ck.1 : Thread nD τ), csem ck.2)

/-- Different names name different things. -/
theorem csem_injective : Function.Injective csem := by decide
/-- Different names name different things. -/
theorem kcell_injective : Function.Injective kcell := by
  rintro ⟨c, k⟩ ⟨c', k'⟩ h
  exact Prod.ext (congrArg (fun g : GSem nD τ sig => g.1.1) h) (csem_injective (congrArg Prod.snd h))
def theCells : Finset (GSem nD τ sig) := Finset.univ.map ⟨kcell, kcell_injective⟩

/-- A device's cells' tokens: three of its barrier, one of each DMA cell. -/
abbrev tcell : Fin 15 → SemLoc sig × Fin 3 := fun | 0 => (.reg barS, 0) | 1 => (.reg barS, 1) | 2 => (.reg barS, 2) | 3 => (.dma 1, 0) | 4 => (.dma 2, 0) | 5 => (.dma 3, 0) | 6 => (.dma 4, 0) | 7 => (.dma 5, 0) | 8 => (.dma 6, 0) | 9 => (.dma 7, 0) | 10 => (.dma 8, 0) | 11 => (.dma 9, 0) | 12 => (.dma 10, 0) | 13 => (.dma 11, 0) | 14 => (.dma 12, 0)
abbrev tokOf (cj : Dev nD × Fin 15) : GSem nD τ sig × ℕ × Fin 3 := (((cj.1 : Thread nD τ), (tcell cj.2).1), 0, (tcell cj.2).2)
/-- Different names name different things. -/
theorem tcell_injective : Function.Injective tcell := by decide
/-- Different names name different things. -/
theorem tokOf_injective : Function.Injective tokOf := by
  rintro ⟨c, j⟩ ⟨c', j'⟩ h
  exact Prod.ext (congrArg (fun x : GSem nD τ sig × ℕ × Fin 3 => x.1.1.1) h)
    (tcell_injective (congrArg (fun x : GSem nD τ sig × ℕ × Fin 3 => (x.1.2, x.2.2)) h))
def theToks : Finset (GSem nD τ sig × ℕ × Fin 3) := Finset.univ.map ⟨tokOf, tokOf_injective⟩

def u₀ : UU :=
  (initOf (Pipeline.cells cfgs cellOf_inj) (Pipeline.launchToks cfgs cellOf_inj), (initOf theCells theToks, 1))

/-- The tokens of device `c`'s own cells. -/
def toks (c : Dev nD) : sProp 𝕄 :=
  iprop(dutyTok EM (barCell c) 0 0 ∗ dutyTok EM (barCell c) 0 1 ∗ dutyTok EM (barCell c) 0 2 ∗ dutyTok EM (dcell c 1) 0 0 ∗ dutyTok EM (dcell c 2) 0 0 ∗ dutyTok EM (dcell c 3) 0 0 ∗ dutyTok EM (dcell c 4) 0 0 ∗ dutyTok EM (dcell c 5) 0 0 ∗ dutyTok EM (dcell c 6) 0 0 ∗ dutyTok EM (dcell c 7) 0 0 ∗ dutyTok EM (dcell c 8) 0 0 ∗ dutyTok EM (dcell c 9) 0 0 ∗ dutyTok EM (dcell c 11) 0 0 ∗ dutyTok EM (dcell c 10) 0 0 ∗ dutyTok EM (dcell c 12) 0 0)

/-- What the launch element deals device `c`. -/
def G (c : Dev nD) : sProp 𝕄 :=
  iprop((bigSep Finset.univ fun k : Fin 13 => roundState EM (moeRd (F := F) m) (kcell (c, k)) 0)
    ∗ (bigSep Finset.univ fun k : Fin 13 => iprop(atPos EM (kcell (c, k)) 0 ∅ 0 ∗ reached EM (kcell (c, k)) 0)) ∗ toks c)

/-- A product over 13 things, written out. -/
theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
/-- A product over 15 things, written out. -/
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 13 ∗ Φ 12 ∗ Φ 14) :=
  bigSep_univ_eq_bigSepL [0, 1, 2, 3, 4, 5, 6, 7, 8, 9, 10, 11, 13, 12, 14] (by decide) (by decide) Φ

/-- The launch element funds every device's deal. -/
theorem fund : BI.own (EM (initOf theCells theToks)) ⊢ (|==> bigSep Finset.univ (G (F := F) m) : sProp 𝕄) := by
  have hX (Φ : GSem nD τ sig → sProp 𝕄) : bigSep theCells Φ = bigSep Finset.univ fun c : Dev nD => bigSep Finset.univ fun k : Fin 13 => Φ (kcell (c, k)) := by
    unfold theCells; rw [bigSep_map, bigSep_univ_prod]; rfl
  have hT : bigSep theToks (fun x => (dutyTok EM x.1 x.2.1 x.2.2 : sProp 𝕄)) = bigSep Finset.univ fun c : Dev nD => toks c := by
    unfold theToks; rw [bigSep_map, bigSep_univ_prod]
    exact bigSep_congr fun c _ => by unfold toks; rw [bigSep_fin15]; rfl
  iintro HX
  imod (Rounds.fund EM (moeRd (F := F) m) theCells theToks) $$ HX with ⟨Hst, Hr, Hat, Htok⟩
  imodintro
  ihave Hst' := (Entails.of_eq (hX fun g => roundState EM (moeRd (F := F) m) g 0)) $$ Hst
  ihave Hat' := (Entails.of_eq (hX fun g => atPos EM g 0 ∅ 0)) $$ Hat
  ihave Hr' := (Entails.of_eq (hX fun g => reached EM g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the protocol's twelve and the local copies' five; -/
theorem ownSems0_eq (c : Dev nD) : (Pipeline.ownSems0 (Ix := Unit) (Name := ℕ) (U := UU) (Lvl := ℕ) (Val := Elt F) (τ := τ) osem c : sProp 𝕄)
    = iprop(semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ semVal (dcell c 12) 0 ∗ semVal (dcell c 13) 0 ∗ semVal (dcell c 14) 0 ∗ semVal (dcell c 15) 0 ∗ semVal (dcell c 16) 0 ∗ semVal (dcell c 17) 0) := by
  rw [Pipeline.ownSems0_eq_of_list c osem [0, 1, 2, 3, 4, 5, 6, 7, 8, 9, 10, 11, 12, 13, 14, 15, 16] (by decide) (by decide)]; rfl
/-- the barrier's is the one that no launch scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of them together, sorted. -/
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 13 => (semVal (kcell (c, k)) 0 : sProp 𝕄)) ∗ locals0 c) := by
  rw [ownSems0_eq, unscopedSems0_eq, bigSep_fin13]
  unfold locals0
  iintro ⟨⟨S1, S2, S3, S4, S5, S6, S7, S8, S9, S10, S11, S12, S13, S14, S15, S16, S17⟩, S0⟩
  isplitl [S0 S1 S2 S3 S4 S5 S6 S7 S8 S9 S10 S11 S12]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  isplitl [S13]; · iexact S13
  isplitl [S14]; · iexact S14
  isplitl [S15]; · iexact S15
  isplitl [S16]; · iexact S16
  iexact S17

/-- and back, the way the launch wants them at its end. -/
theorem sems0_join (c : Dev nD) :
    iprop(rest13 c ∗ locals0 c) ⊢ iprop(unscopedSems0 c ∗ Pipeline.ownSems0 (Ix := Unit) (Name := ℕ) (U := UU) (Lvl := ℕ) (Val := Elt F) (τ := τ) osem c : sProp 𝕄) := by
  rw [ownSems0_eq, unscopedSems0_eq]
  unfold rest13 locals0
  iintro ⟨⟨S0, S1, S2, S3, S4, S5, S6, S7, S8, S9, S10, S11, S12⟩, S13, S14, S15, S16, S17⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  iexact S17

/-- One device's cells put into invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EM (moeRd (F := F) m) κ (kcell (c, k))))
          ∗ (bigSep Finset.univ fun k => iprop(atPos EM (kcell (c, k)) 0 ∅ 0 ∗ reached EM (kcell (c, k)) 0)) ∗ toks c ∗ locals0 c) := by
  unfold G
  iintro ⟨Hos, Hus, Hst, Hat, Htok⟩
  ihave Hv := (sems0_split (F := F) c) $$ [Hos Hus]
  · isplitl [Hos] <;> iassumption
  icases Hv with ⟨Hv, Hl⟩
  imod (show iprop((bigSep Finset.univ fun k : Fin 13 => semVal (kcell (c, k)) 0) ∗ bigSep Finset.univ fun k : Fin 13 => roundState EM (moeRd (F := F) m) (kcell (c, k)) 0)
      ⊢ (|={Set.univ}=> bigSep Finset.univ fun k => iprop(∃ κ : ℕ, cellInv EM (moeRd (F := F) m) κ (kcell (c, k))) : sProp 𝕄) from by
        rw [← bigSep_sep']
        exact (bigSep_mono fun k _ => (Rounds.body_intro EM (moeRd (F := F) m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## The deal -/

/-- What everyone may know: every cell's invariant, every cell's first round reached. -/
def records (K : Dev nD × Fin 13 → ℕ) : sProp 𝕄 :=
  iprop((bigSep Finset.univ fun ck : Dev nD × Fin 13 => cellInv EM (moeRd (F := F) m) (K ck) (kcell ck))
    ∗ bigSep Finset.univ fun ck : Dev nD × Fin 13 => reached EM (kcell ck) 0)
instance records_persistent (K : Dev nD × Fin 13 → ℕ) : BI.Persistent (records (F := F) m K) := by unfold records; infer_instance

/-- One cell's record out of all. -/
theorem inv_at (K : Dev nD × Fin 13 → ℕ) (ck : Dev nD × Fin 13) :
    (bigSep Finset.univ fun ck : Dev nD × Fin 13 => (cellInv EM (moeRd (F := F) m) (K ck) (kcell ck) : sProp 𝕄)) ⊢ cellInv EM (moeRd (F := F) m) (K ck) (kcell ck) :=
  bigSep_elim (Finset.mem_univ ck)
/-- One cell's start out of all. -/
theorem reached_at (ck : Dev nD × Fin 13) :
    (bigSep Finset.univ fun ck : Dev nD × Fin 13 => (reached EM (kcell ck) 0 : sProp 𝕄)) ⊢ reached EM (kcell ck) 0 :=
  bigSep_elim (Finset.mem_univ ck)

/-- What stays one device's own. -/
def linear (c : Dev nD) : sProp 𝕄 := iprop(poss c ∗ paytoks c ∗ locals0 c)

/-- The records and a device's own part make what its run starts from. -/
theorem ghost_intro (K : Dev nD × Fin 13 → ℕ) (c : Dev nD) : iprop(records (F := F) m K ∗ linear c) ⊢ ghost m c := by
  unfold records linear ghost invs reach
  iintro ⟨⟨#HI, #HR⟩, HP, HT, HL⟩
  isplitr
  · iexists K
    isplitr; · iapply (inv_at (F := F) m K (c, 0)); iexact HI
    isplitr; · iapply (inv_at (F := F) m K (c, 1)); iexact HI
    isplitr; · iapply (inv_at (F := F) m K (c, 2)); iexact HI
    isplitr; · iapply (inv_at (F := F) m K (c, 3)); iexact HI
    isplitr; · iapply (inv_at (F := F) m K (c, 4)); iexact HI
    isplitr; · iapply (inv_at (F := F) m K (c, 5)); iexact HI
    isplitr; · iapply (inv_at (F := F) m K (c, 6)); iexact HI
    isplitr; · iapply (inv_at (F := F) m K (c, 7)); iexact HI
    isplitr; · iapply (inv_at (F := F) m K (c, 8)); iexact HI
    isplitr; · iapply (inv_at (F := F) m K (c, 9)); iexact HI
    isplitr; · iapply (inv_at (F := F) m K (c, 10)); iexact HI
    isplitr; · iapply (inv_at (F := F) m K (c, 11)); iexact HI
    isplitr; · iapply (inv_at (F := F) m K (c, 12)); iexact HI
    isplitr; · iapply (inv_at (F := F) m K (py c, 0)); iexact HI
    isplitr; · iapply (inv_at (F := F) m K (px c, 0)); iexact HI
    isplitr; · iapply (inv_at (F := F) m K (pd c, 0)); iexact HI
    isplitr; · iapply (inv_at (F := F) m K (py c, 7)); iexact HI
    isplitr; · iapply (inv_at (F := F) m K (py c, 8)); iexact HI
    isplitr; · iapply (inv_at (F := F) m K (py c, 9)); iexact HI
    isplitr; · iapply (inv_at (F := F) m K (py c, 11)); iexact HI
    isplitr; · iapply (inv_at (F := F) m K (px c, 10)); iexact HI
    iapply (inv_at (F := F) m K (pd c, 12)); iexact HI
  isplitr
  · isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (py c, 0)); iexact HR
    isplitr; · iapply (reached_at (F := F) (px c, 0)); iexact HR
    isplitr; · iapply (reached_at (F := F) (pd c, 0)); iexact HR
    isplitr; · iapply (reached_at (F := F) (py c, 7)); iexact HR
    isplitr; · iapply (reached_at (F := F) (py c, 8)); iexact HR
    isplitr; · iapply (reached_at (F := F) (py c, 9)); iexact HR
    isplitr; · iapply (reached_at (F := F) (py c, 11)); iexact HR
    isplitr; · iapply (reached_at (F := F) (px c, 10)); iexact HR
    iapply (reached_at (F := F) (pd c, 12)); iexact HR
  isplitl [HP]; · iexact HP
  isplitl [HT]; · iexact HT
  iexact HL

/-- The peers as permutations of the mesh. -/
def pyE : Dev nD ≃ Dev nD := ⟨py, py, py_py, py_py⟩
def pxE : Dev nD ≃ Dev nD := ⟨px, px, px_px, px_px⟩
def pdE : Dev nD ≃ Dev nD := ⟨pd, pd, pd_pd, pd_pd⟩

/-- Each token goes to the peer that pays with it. -/
theorem toks_around : (bigSep Finset.univ fun c : Dev nD => (toks c : sProp 𝕄)) ⊢ bigSep Finset.univ fun c : Dev nD => paytoks c := by
  unfold toks paytoks
  simp only [bigSep_sep']
  rw [bigSep_univ_equiv pyE (fun c : Dev nD => (dutyTok EM (barCell c) 0 0 : sProp 𝕄)),
    bigSep_univ_equiv pxE (fun c : Dev nD => (dutyTok EM (barCell c) 0 1 : sProp 𝕄)),
    bigSep_univ_equiv pdE (fun c : Dev nD => (dutyTok EM (barCell c) 0 2 : sProp 𝕄)),
    bigSep_univ_equiv pyE (fun c : Dev nD => (dutyTok EM (dcell c 7) 0 0 : sProp 𝕄)),
    bigSep_univ_equiv pyE (fun c : Dev nD => (dutyTok EM (dcell c 8) 0 0 : sProp 𝕄)),
    bigSep_univ_equiv pyE (fun c : Dev nD => (dutyTok EM (dcell c 9) 0 0 : sProp 𝕄)),
    bigSep_univ_equiv pyE (fun c : Dev nD => (dutyTok EM (dcell c 11) 0 0 : sProp 𝕄)),
    bigSep_univ_equiv pxE (fun c : Dev nD => (dutyTok EM (dcell c 10) 0 0 : sProp 𝕄)),
    bigSep_univ_equiv pdE (fun c : Dev nD => (dutyTok EM (dcell c 12) 0 0 : sProp 𝕄))]
  exact .rfl

/-- A record that may be copied goes to every factor. -/
theorem bigSep_with_record {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The resources by cell are the resources by device. -/
theorem regroup :
    (bigSep Finset.univ fun c : Dev nD => iprop((bigSep Finset.univ fun k => iprop(∃ κ : ℕ, cellInv EM (moeRd (F := F) m) κ (kcell (c, k))))
          ∗ (bigSep Finset.univ fun k => iprop(atPos EM (kcell (c, k)) 0 ∅ 0 ∗ reached EM (kcell (c, k)) 0)) ∗ toks c ∗ locals0 c) : sProp 𝕄)
      ⊢ bigSep Finset.univ (ghost m) := by
  rw [bigSep_sep', bigSep_sep', bigSep_sep', ← bigSep_univ_prod (fun ck : Dev nD × Fin 13 => iprop(∃ κ : ℕ, cellInv EM (moeRd (F := F) m) κ (kcell ck))),
    bigSep_congr (s := Finset.univ) (fun (c : Dev nD) _ => bigSep_sep' Finset.univ (fun k : Fin 13 => (atPos EM (kcell (c, k)) 0 ∅ 0 : sProp 𝕄)) (fun k => reached EM (kcell (c, k)) 0)),
    bigSep_sep', ← bigSep_univ_prod (fun ck : Dev nD × Fin 13 => (reached EM (kcell ck) 0 : sProp 𝕄))]
  iintro ⟨HI, ⟨Hat, #HR⟩, Htok, Hl⟩
  ihave HK := (BI.bigSep_exists_pi Finset.univ (fun (ck : Dev nD × Fin 13) (κ : ℕ) => (cellInv EM (moeRd (F := F) m) κ (kcell ck) : sProp 𝕄))) $$ HI
  icases HK with ⟨%K, #HI⟩
  ihave Htk := (toks_around (F := F)) $$ Htok
  iapply (bigSep_with_record (R := records (F := F) m K) fun c _ => ghost_intro m K c)
  isplitr
  · unfold records; isplitl; · iexact HI
    iexact HR
  · unfold linear
    simp only [bigSep_sep']
    isplitl [Hat]
    · iapply (Entails.of_eq (bigSep_congr (s := Finset.univ) fun (c : Dev nD) _ =>
        (bigSep_fin13 (F := F) fun k : Fin 13 => atPos EM (kcell (c, k)) 0 ∅ 0) : _ = bigSep Finset.univ fun c : Dev nD => poss c))
      iexact Hat
    isplitl [Htk]; · iexact Htk
    iexact Hl

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

/-- A device is a peer's peer when the peer is its own. -/
theorem swap_iff {e : Dev nD → Dev nD} (he : ∀ d, e (e d) = d) (c d : Dev nD) : c = e d ↔ d = e c :=
  ⟨fun h => by rw [h, he], fun h => by rw [h, he]⟩

/-- What a summand of a device's debts puts on a cell of `c`. -/
theorem owed_dma {e : Dev nD → Dev nD} (he : ∀ d, e (e d) = d) (q q' : DmaSem sig) (n : ℕ) (d c : Dev nD) :
    (tallyAt (dcell (e d) q) () n : CellTallies nD τ sig Unit) (dcell c q') () = if q' = q then (if d = e c then n else 0) else 0 := by
  rw [tallyAt_apply]
  by_cases hq : q' = q
  · subst hq
    by_cases h : d = e c
    · subst h; rw [he, if_pos ⟨rfl, rfl⟩, if_pos rfl, if_pos rfl]
    · rw [if_neg (fun h' => h ((swap_iff he c d).mp (congrArg (fun g : GSem nD τ sig => g.1.1) h'.1))), if_pos rfl, if_neg h]
  · rw [if_neg (fun h' => hq (SemLoc.dma.inj (congrArg Prod.snd h'.1))), if_neg hq]
/-- What the devices owe a barrier, by the device that is owed. -/
theorem owed_bar {e : Dev nD → Dev nD} (he : ∀ d, e (e d) = d) (n : ℕ) (d c : Dev nD) :
    (tallyAt (barCell (e d)) () n : CellTallies nD τ sig Unit) (barCell c) () = if d = e c then n else 0 := by
  rw [tallyAt_apply]
  by_cases h : d = e c
  · subst h; rw [he, if_pos ⟨rfl, rfl⟩, if_pos rfl]
  · rw [if_neg (fun h' => h ((swap_iff he c d).mp (congrArg (fun g : GSem nD τ sig => g.1.1) h'.1))), if_neg h]
/-- A debt to a transfer's cell is no debt to a barrier. -/
theorem owed_cross (q : DmaSem sig) (n : ℕ) (d c : Dev nD) : (tallyAt (dcell d q) () n : CellTallies nD τ sig Unit) (barCell c) () = 0 := by
  rw [tallyAt_apply, if_neg (fun h' => by cases congrArg Prod.snd h'.1)]
/-- A debt to a barrier is no debt to a transfer's cell. -/
theorem owed_cross' (q : DmaSem sig) (n : ℕ) (d c : Dev nD) : (tallyAt (barCell d) () n : CellTallies nD τ sig Unit) (dcell c q) () = 0 := by
  rw [tallyAt_apply, if_neg (fun h' => by cases congrArg Prod.snd h'.1)]

/-- All that the barrier of a device is owed at launch. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  unfold O₀
  simp only [Pi.add_apply, Finsupp.add_apply, owed_cross, owed_bar py_py, owed_bar px_px, owed_bar pd_pd, Finset.sum_add_distrib,
    Finset.sum_ite_eq', Finset.mem_univ, if_true, Finset.sum_const_zero]
  rfl

/-- All that cell 7 of a device is owed at launch. -/
theorem launch_7 (c : Dev nD) :
    tallyOn (dcell c 7) (launchCredit (Pipeline.owing O₀) 0 (dcell c 7)) = (tallyAt (dcell c 7) () NX : CellTallies nD τ sig Unit) := by
  unfold tallyAt; refine congrArg _ (Finsupp.ext fun u => ?_); cases u
  rw [Pipeline.launchCredit_owing, Finsupp.single_eq_same]
  unfold O₀
  simp only [Pi.add_apply, Finsupp.add_apply, owed_cross', owed_dma py_py, owed_dma px_px, owed_dma pd_pd, Finset.sum_add_distrib]
  simp +decide only [if_true, if_false, Finset.sum_ite_eq', Finset.mem_univ, Finset.sum_const_zero, Nat.add_zero, Nat.zero_add]
/-- All that cell 8 of a device is owed at launch. -/
theorem launch_8 (c : Dev nD) :
    tallyOn (dcell c 8) (launchCredit (Pipeline.owing O₀) 0 (dcell c 8)) = (tallyAt (dcell c 8) () NR : CellTallies nD τ sig Unit) := by
  unfold tallyAt; refine congrArg _ (Finsupp.ext fun u => ?_); cases u
  rw [Pipeline.launchCredit_owing, Finsupp.single_eq_same]
  unfold O₀
  simp only [Pi.add_apply, Finsupp.add_apply, owed_cross', owed_dma py_py, owed_dma px_px, owed_dma pd_pd, Finset.sum_add_distrib]
  simp +decide only [if_true, if_false, Finset.sum_ite_eq', Finset.mem_univ, Finset.sum_const_zero, Nat.add_zero, Nat.zero_add]
/-- All that cell 9 of a device is owed at launch. -/
theorem launch_9 (c : Dev nD) :
    tallyOn (dcell c 9) (launchCredit (Pipeline.owing O₀) 0 (dcell c 9)) = (tallyAt (dcell c 9) () NW : CellTallies nD τ sig Unit) := by
  unfold tallyAt; refine congrArg _ (Finsupp.ext fun u => ?_); cases u
  rw [Pipeline.launchCredit_owing, Finsupp.single_eq_same]
  unfold O₀
  simp only [Pi.add_apply, Finsupp.add_apply, owed_cross', owed_dma py_py, owed_dma px_px, owed_dma pd_pd, Finset.sum_add_distrib]
  simp +decide only [if_true, if_false, Finset.sum_ite_eq', Finset.mem_univ, Finset.sum_const_zero, Nat.add_zero, Nat.zero_add]
/-- All that cell 10 of a device is owed at launch. -/
theorem launch_10 (c : Dev nD) :
    tallyOn (dcell c 10) (launchCredit (Pipeline.owing O₀) 0 (dcell c 10)) = (tallyAt (dcell c 10) () NX : CellTallies nD τ sig Unit) := by
  unfold tallyAt; refine congrArg _ (Finsupp.ext fun u => ?_); cases u
  rw [Pipeline.launchCredit_owing, Finsupp.single_eq_same]
  unfold O₀
  simp only [Pi.add_apply, Finsupp.add_apply, owed_cross', owed_dma py_py, owed_dma px_px, owed_dma pd_pd, Finset.sum_add_distrib]
  simp +decide only [if_true, if_false, Finset.sum_ite_eq', Finset.mem_univ, Finset.sum_const_zero, Nat.add_zero, Nat.zero_add]
/-- All that cell 11 of a device is owed at launch. -/
theorem launch_11 (c : Dev nD) :
    tallyOn (dcell c 11) (launchCredit (Pipeline.owing O₀) 0 (dcell c 11)) = (tallyAt (dcell c 11) () NX : CellTallies nD τ sig Unit) := by
  unfold tallyAt; refine congrArg _ (Finsupp.ext fun u => ?_); cases u
  rw [Pipeline.launchCredit_owing, Finsupp.single_eq_same]
  unfold O₀
  simp only [Pi.add_apply, Finsupp.add_apply, owed_cross', owed_dma py_py, owed_dma px_px, owed_dma pd_pd, Finset.sum_add_distrib]
  simp +decide only [if_true, if_false, Finset.sum_ite_eq', Finset.mem_univ, Finset.sum_const_zero, Nat.add_zero, Nat.zero_add]
/-- All that cell 12 of a device is owed at launch. -/
theorem launch_12 (c : Dev nD) :
    tallyOn (dcell c 12) (launchCredit (Pipeline.owing O₀) 0 (dcell c 12)) = (tallyAt (dcell c 12) () NX : CellTallies nD τ sig Unit) := by
  unfold tallyAt; refine congrArg _ (Finsupp.ext fun u => ?_); cases u
  rw [Pipeline.launchCredit_owing, Finsupp.single_eq_same]
  unfold O₀
  simp only [Pi.add_apply, Finsupp.add_apply, owed_cross', owed_dma py_py, owed_dma px_px, owed_dma pd_pd, Finset.sum_add_distrib]
  simp +decide only [if_true, if_false, Finset.sum_ite_eq', Finset.mem_univ, Finset.sum_const_zero, Nat.add_zero, Nat.zero_add]

/-- The credits a device is dealt at launch. -/
theorem creds (c : Dev nD) : (Pipeline.launchCred O₀ c : sProp 𝕄) ⊢ credits c := by
  unfold Pipeline.launchCred credits
  rw [← launch_bar, ← launch_7, ← launch_8, ← launch_9, ← launch_10, ← launch_11, ← launch_12]
  refine (bigSep_subset (t := ({.reg barS, .dma 7, .dma 8, .dma 9, .dma 10, .dma 11, .dma 12} : Finset (SemLoc sig))) (Finset.subset_univ _)).trans ?_
  rw [bigSep_eq_bigSepL_of_eq [SemLoc.reg barS, .dma 7, .dma 8, .dma 9, .dma 10, .dma 11, .dma 12] (by decide) (by decide)]
  exact Entails.refl _

/-! ## The theorem's side conditions -/

/-- A device's share of the launch. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨Hu, Hlev, Hcr, -, HG⟩
  ihave Hc := (creds (F := F) c) $$ Hcr
  ihave Hu := (show Pipeline.unscopedRestP Pipeline.Prefetch.none cfg0.spec c (fun b => m ((c : Thread nD τ).loc b)) ⊢ _ from
    Entails.of_eq ((Pipeline.unscopedRestP_none _ _ _).trans (unscopedRest0_eq c (fun b => m ((c : Thread nD τ).loc b))))) $$ Hu
  icases Hu with ⟨X0, X2, X3, V1⟩
  imodintro
  unfold start args
  isplitl
  · isplitl [HG]; · iexact HG
    isplitl [Hc]; · iexact Hc
    isplitl [Hlev]; · iexact Hlev
    isplitl [X0 X2 X3]
    · isplitl [X0]; · iexact X0
      isplitl [X2]; · iexact X2
      iexact X3
    iexact V1
  · iempintro

/-- It is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What the run leaves beside what the launch takes back. -/
def left (c : Dev nD) : sProp 𝕄 := iprop(unscopedSems0 c ∗ args m c ∗ pt c main_v1 fullShare (outv m c))

/-- What the body ends with is what the launch gives back. -/
theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left
  iintro ⟨⟨Hz, Hl, Hs⟩, HA, HV⟩
  ihave HZ := (sems0_join (F := F) c) $$ [Hz Hl]
  · isplitl [Hz] <;> iassumption
  icases HZ with ⟨Hb, Ho⟩
  isplitl [Hb HA HV]
  · isplitl [Hb]; · iexact Hb
    isplitl [HA] <;> iassumption
  isplitl [Ho]; · iexact Ho
  unfold scratch; iexact Hs

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_above c _ _ (by
      rcases t with ⟨_ | _, ht⟩
      · fin_cases w; fin_cases s; exact above_O₀ c
      · exact above_zero)

/-! ## The run -/

/-- What a final state holds on device `c`: the result, the four arguments as they were. -/
def Good (c : Dev nD) (s : MemSt nD τ sig (Elt F)) : Prop :=
  s.mem ((c : Thread nD τ).loc main_v1) = outv m c
    ∧ s.mem ((c : Thread nD τ).loc main_arg0) = m ((c : Thread nD τ).loc main_arg0)
    ∧ s.mem ((c : Thread nD τ).loc main_arg2) = m ((c : Thread nD τ).loc main_arg2)
    ∧ s.mem ((c : Thread nD τ).loc main_arg3) = m ((c : Thread nD τ).loc main_arg3)

/-- The router's columns are an input window's array: unchanged. -/
theorem router_kept (c : Dev nD) : (dats m 0 c).arrAt (0 : Fin 1) cfg0.N = m ((c : Thread nD τ).loc main_arg1) :=
  (dats (F := F) m 0 c).arrAt_in (0 : Fin 1) rfl _

set_option maxRecDepth 8000 in
/-- From any memory with zero counters, for any float values: every run of the program on the mesh ends, each
    device's result block at `outv`, its arguments as they were, every semaphore counter at zero. -/
theorem run_main : θ_run defs (onTc (τ := τ) (main (F := F))) (⟨m, fun _ => 0, ρ⟩ : MemSt nD τ sig (Elt F))
    (fun r => (∀ c, Good m c r.2 ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      ihave HX' := (Entails.of_eq (P := BI.own (embR (initOf theCells theToks, (1 : Counters)))) (Q := BI.own (EM (initOf theCells theToks))) rfl) $$ HX
      imod (fund (F := F) m) $$ HX' with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => Good m c s ∧ ∀ sm : SemLoc sig, sm.isScoped .tc = false → s.sem ((c.tc : Thread nD τ), sm) = 0)
    (hY := fun c s' => by
      unfold left args
      iintro ⟨⟨Hu, ⟨X0, X2, X3⟩, V1⟩, -, HSI⟩
      icombine HSI V1 gives %h1
      icombine HSI X0 gives %h0
      icombine HSI X2 gives %h2
      icombine HSI X3 gives %h3
      imod (Pipeline.unscopedSems0_read (X := unscopedSems0 c) (c := c) fupd_intro s') $$ [Hu HSI] with ⟨%hz, HSI⟩
      · isplitl [Hu] <;> iassumption
      imodintro
      isplitr
      · ipureintro
        exact ⟨⟨Buf.eq_of_forall_mem_univ h1, Buf.eq_of_forall_mem_univ h0, Buf.eq_of_forall_mem_univ h2, Buf.eq_of_forall_mem_univ h3⟩, hz⟩
      iexact HSI)
    (hQ := fun _ h hs => ⟨fun c => ⟨(h c).2.2.1, ((h c).1 (0 : Fin 1)).trans (router_kept m c)⟩, sem_eq_zero hs fun c => (h c).2.2.2⟩)

end Cert.Moe

end
-- ==== Proof.Top2.lean ====
/-
# The two largest of four gates

The weights a row gives its four experts, in the form that the kernel computes them in (thresholds against the largest
gate and the largest of the rest) and in the form of a sorted choice of two distinct gates, and that the two agree.
Everything here is about four extended reals; nothing depends on a program.
-/
module

public import Idealize.ShloMosaic.PureOps.Ideal
public import Idealize.ShloMosaic.Lib.IdealHost

@[expose] public section

noncomputable section

namespace Cert.Moe

open Idealize.ShloMosaic

/-- The largest of four gates. -/
def top (g : Fin 4 → EReal) : EReal := Finset.univ.sup g
/-- The gates with every one that reaches the largest taken out. -/
def rest (g : Fin 4 → EReal) (e : Fin 4) : EReal := if top g ≤ g e then ⊥ else g e
/-- The weight of the largest gate against the next one. -/
def first (g : Fin 4 → EReal) : EReal := Ideal.div 1 (1 + Ideal.exp (top (rest g) - top g))
/-- The weight that expert `e` gets. -/
def weight (g : Fin 4 → EReal) (e : Fin 4) : EReal :=
  (if top g ≤ g e then first g else 0) + (if top (rest g) ≤ rest g e then 1 - first g else 0)

/-- A gate is at most the largest. -/
theorem le_top_gate (g : Fin 4 → EReal) (e : Fin 4) : g e ≤ top g := Finset.le_sup (Finset.mem_univ e)

/-- The largest gate does not depend on the order of the experts. -/
theorem top_comp (g : Fin 4 → EReal) (π : Equiv.Perm (Fin 4)) : top (fun e => g (π e)) = top g := by
  unfold top
  rw [Finset.sup_univ_eq_iSup, Finset.sup_univ_eq_iSup]
  exact Equiv.iSup_comp (g := g) π

/-- Nor do the weights: they follow the experts. -/
theorem weight_comp (g : Fin 4 → EReal) (π : Equiv.Perm (Fin 4)) (e : Fin 4) :
    weight (fun e => g (π e)) e = weight g (π e) := by
  have hr : rest (fun e => g (π e)) = fun e => rest g (π e) := by
    funext e; simp only [rest, top_comp]
  simp only [weight, first, hr, top_comp]

/-! ## The first expert of every gate -/

/-- The first expert whose gate is that of `e`. -/
def rep (g : Fin 4 → EReal) (e : Fin 4) : Fin 4 :=
  if g e = g 0 then 0 else if g e = g 1 then 1 else if g e = g 2 then 2 else 3
/-- The gates with every repetition taken out. -/
def distinct (g : Fin 4 → EReal) (e : Fin 4) : EReal := if rep g e = e then g e else ⊥

/-- The first expert of a gate has that gate. -/
theorem gate_rep (g : Fin 4 → EReal) (e : Fin 4) : g (rep g e) = g e := by
  unfold rep
  split_ifs with h0 h1 h2
  · exact h0.symm
  · exact h1.symm
  · exact h2.symm
  · fin_cases e
    · exact absurd rfl h0
    · exact absurd rfl h1
    · exact absurd rfl h2
    · rfl

/-- Equal gates have the same first expert. -/
theorem rep_congr (g : Fin 4 → EReal) {e e' : Fin 4} (h : g e = g e') : rep g e = rep g e' := by
  unfold rep; rw [h]

/-- Two experts have the same first expert exactly when their gates are equal. -/
theorem rep_eq_iff (g : Fin 4 → EReal) (e e' : Fin 4) : rep g e = rep g e' ↔ g e = g e' :=
  ⟨fun h => (gate_rep g e).symm.trans ((congrArg g h).trans (gate_rep g e')), rep_congr g⟩

/-- The first expert of a gate stands for itself. -/
theorem rep_rep (g : Fin 4 → EReal) (e : Fin 4) : rep g (rep g e) = rep g e := rep_congr g (gate_rep g e)

/-- It keeps its gate. -/
theorem distinct_rep (g : Fin 4 → EReal) (e : Fin 4) : distinct g (rep g e) = g e := by
  rw [distinct, if_pos (rep_rep g e), gate_rep g]

/-- Taking repetitions out leaves no larger gate. -/
theorem distinct_le (g : Fin 4 → EReal) (e : Fin 4) : distinct g e ≤ g e := by
  unfold distinct; split_ifs
  · exact le_rfl
  · exact bot_le

/-! ## The sorted choice -/

/-- The two weights of a pair of gates, the larger one's against both. -/
def soft (s t u : EReal) : EReal := Ideal.div (Ideal.exp (u - max s t)) (Ideal.exp (s - max s t) + Ideal.exp (t - max s t))

/-- A quotient of reals. -/
theorem div_real (x y : ℝ) (h : y ≠ 0) : Ideal.div (x : EReal) (y : EReal) = ((x / y : ℝ) : EReal) := by
  rw [Ideal.div_coe h, ← EReal.coe_mul, mul_one_div]

/-- Of a real gate and one that is no larger, the first weight is the kernel's and the second the rest of one. -/
theorem soft_pair (s : ℝ) (t : EReal) (h : t ≤ s) :
    soft s t s = Ideal.div 1 (1 + Ideal.exp (t - s)) ∧ soft s t t = 1 - Ideal.div 1 (1 + Ideal.exp (t - s)) := by
  have hm : max (s : EReal) t = s := max_eq_left h
  have h0 : Ideal.exp ((s : EReal) - s) = ((1 : ℝ) : EReal) := by
    rw [← EReal.coe_sub, sub_self, Ideal.exp_coe, Real.exp_zero]
  have key : ∀ q : ℝ, 0 ≤ q → Ideal.exp (t - s) = (q : EReal) → soft s t s = Ideal.div 1 (1 + Ideal.exp (t - s)) ∧
      soft s t t = 1 - Ideal.div 1 (1 + Ideal.exp (t - s)) := by
    intro q hq e
    have hp : (1 + q : ℝ) ≠ 0 := by positivity
    unfold soft
    rw [hm, h0, e, ← EReal.coe_one, ← EReal.coe_add, div_real _ _ hp, div_real _ _ hp]
    refine ⟨rfl, ?_⟩
    rw [← EReal.coe_sub]
    congr 1
    field_simp
    ring
  induction t with
  | bot => exact key 0 le_rfl (by rw [EReal.bot_sub, Ideal.exp_bot, EReal.coe_zero])
  | coe t => exact key (Real.exp (t - s)) (Real.exp_pos _).le (by rw [← EReal.coe_sub, Ideal.exp_coe])
  | top => exact absurd h (by simp)

/-- The larger weight is a real number between zero and one, and so is the other; both are non-negative. -/
theorem soft_nonneg (s : ℝ) (t : EReal) (h : t ≤ s) : 0 ≤ soft s t s ∧ 0 ≤ soft s t t := by
  have hm : max (s : EReal) t = s := max_eq_left h
  have h0 : Ideal.exp ((s : EReal) - s) = ((1 : ℝ) : EReal) := by
    rw [← EReal.coe_sub, sub_self, Ideal.exp_coe, Real.exp_zero]
  have key : ∀ q : ℝ, 0 ≤ q → Ideal.exp (t - s) = (q : EReal) → 0 ≤ soft s t s ∧ 0 ≤ soft s t t := by
    intro q hq e
    have hp : (1 + q : ℝ) ≠ 0 := by positivity
    unfold soft
    rw [hm, h0, e, ← EReal.coe_add, div_real _ _ hp, div_real _ _ hp]
    exact ⟨by rw [EReal.coe_nonneg]; positivity, by rw [EReal.coe_nonneg]; positivity⟩
  induction t with
  | bot => exact key 0 le_rfl (by rw [EReal.bot_sub, Ideal.exp_bot, EReal.coe_zero])
  | coe t => exact key (Real.exp (t - s)) (Real.exp_pos _).le (by rw [← EReal.coe_sub, Ideal.exp_coe])
  | top => exact absurd h (by simp)

section Sorted

variable (g : Fin 4 → EReal) (hg : ∀ e, ∃ y : ℝ, g e = y) (σ : Fin 4 → Fin 4) (hσ : Function.Surjective σ)
  (hord : ∀ i j, i < j → distinct g (σ j) ≤ distinct g (σ i))

include hg hσ hord

/-- The first of the sorted gates is the largest, and it is the first expert of its gate. -/
theorem sorted_zero : distinct g (σ 0) = top g ∧ rep g (σ 0) = σ 0 ∧ g (σ 0) = top g := by
  have hle : ∀ e, distinct g e ≤ distinct g (σ 0) := by
    intro e
    obtain ⟨i, rfl⟩ := hσ e
    rcases Fin.eq_zero_or_eq_succ i with h | ⟨k, h⟩
    · rw [h]
    · exact hord 0 i (by rw [h]; exact Fin.succ_pos k)
  have h1 : distinct g (σ 0) = top g := by
    refine le_antisymm ((distinct_le g _).trans (le_top_gate g _)) (Finset.sup_le fun e _ => ?_)
    rw [← distinct_rep g e]; exact hle _
  have h2 : rep g (σ 0) = σ 0 := by
    by_contra hn
    have hb : distinct g (σ 0) = ⊥ := if_neg hn
    obtain ⟨y, hy⟩ := hg 0
    have := le_top_gate g 0
    rw [← h1, hb, hy] at this
    exact absurd this (by simp)
  refine ⟨h1, h2, ?_⟩
  rw [← h1, distinct, if_pos h2]

/-- A gate other than the largest is at most the second of the sorted gates. -/
theorem le_sorted_one (e : Fin 4) (he : ¬ top g ≤ g e) : g e ≤ distinct g (σ 1) := by
  obtain ⟨i, hi⟩ := hσ (rep g e)
  have hi0 : i ≠ 0 := by
    rintro rfl
    apply he
    rw [← gate_rep g e, ← hi, (sorted_zero g hg σ hσ hord).2.2]
  rw [← distinct_rep g e, ← hi]
  rcases eq_or_ne i 1 with rfl | h1
  · exact le_rfl
  · exact hord 1 i (by omega)

/-- The second of the sorted gates is the largest of the rest. -/
theorem sorted_one (hinj : Function.Injective σ) : distinct g (σ 1) = top (rest g) := by
  obtain ⟨h0, hr0, hg0⟩ := sorted_zero g hg σ hσ hord
  refine le_antisymm ?_ (Finset.sup_le fun e _ => ?_)
  · by_cases hr : rep g (σ 1) = σ 1
    · have hne : ¬ top g ≤ g (σ 1) := by
        intro hle
        have he : g (σ 1) = g (σ 0) := by rw [hg0]; exact le_antisymm (le_top_gate g _) hle
        have := rep_congr g he
        rw [hr, hr0] at this
        exact absurd (hinj this) (by decide)
      have h1 : distinct g (σ 1) = rest g (σ 1) := by rw [distinct, if_pos hr, rest, if_neg hne]
      rw [h1]; exact le_top_gate _ _
    · rw [distinct, if_neg hr]; exact bot_le
  · unfold rest
    split_ifs with h
    · exact bot_le
    · exact le_sorted_one g hg σ hσ hord e h

/-- THE WEIGHTS AGREE: the sorted choice of two distinct gates, every expert given the weight of its gate, is the
    kernel's weight of that expert. -/
theorem sorted_weight (hinj : Function.Injective σ) (e : Fin 4) :
    (if σ 0 = rep g e then soft (distinct g (σ 0)) (distinct g (σ 1)) (distinct g (σ 0)) else 0)
      + (if σ 1 = rep g e then soft (distinct g (σ 0)) (distinct g (σ 1)) (distinct g (σ 1)) else 0) = weight g e := by
  obtain ⟨h0, hr0, hg0⟩ := sorted_zero g hg σ hσ hord
  have h1 := sorted_one g hg σ hσ hord hinj
  obtain ⟨s, hs⟩ : ∃ s : ℝ, top g = s := by rw [← hg0]; exact hg _
  have hle : top (rest g) ≤ (s : EReal) := by rw [← hs, ← h0, ← h1]; exact hord 0 1 (by decide)
  obtain ⟨hw0, hw1⟩ := soft_pair s (top (rest g)) hle
  have hc0 : σ 0 = rep g e ↔ top g ≤ g e := by
    rw [← hr0, rep_eq_iff, hg0]
    exact ⟨fun h => h.le, fun h => le_antisymm h (le_top_gate g e)⟩
  have hf : first g = Ideal.div 1 (1 + Ideal.exp (top (rest g) - s)) := by rw [first, hs]
  rw [h0, h1, hs, hw0, hw1, ← hf, weight]
  congr 1
  · simp only [hc0]
  by_cases hb : top (rest g) = ⊥
  · have hz : 1 - first g = 0 := by
      rw [hf, hb, EReal.bot_sub, Ideal.exp_bot, add_zero, ← EReal.coe_one, div_real _ _ one_ne_zero, ← EReal.coe_sub]
      simp
    rw [hz]; simp
  · have hr : rep g (σ 1) = σ 1 := by
      by_contra hn
      rw [← h1, distinct, if_neg hn] at hb
      exact hb rfl
    have hg1 : g (σ 1) = top (rest g) := by rw [← h1, distinct, if_pos hr]
    have hlt : ¬ top g ≤ g (σ 1) := by
      intro hle'
      have he : g (σ 1) = g (σ 0) := by rw [hg0]; exact le_antisymm (le_top_gate g _) hle'
      have := rep_congr g he
      rw [hr, hr0] at this
      exact absurd (hinj this) (by decide)
    have hc1 : σ 1 = rep g e ↔ top (rest g) ≤ rest g e := by
      rw [← hr, rep_eq_iff]
      constructor
      · intro h
        have : rest g e = g e := if_neg (by rw [← h]; exact hlt)
        rw [this, ← h, hg1]
      · intro h
        have h2 : rest g e = top (rest g) := le_antisymm (le_top_gate _ _) h
        have h3 : rest g e = g e := by
          unfold rest at h2 ⊢
          split_ifs at h2 ⊢ with h4
          · exact absurd h2.symm hb
          · rfl
        rw [hg1, ← h2, h3]
    simp only [hc1]

/-- The whole row: each expert's output taken once per sorted choice, is each expert's output by its weight. -/
theorem sorted_term (hinj : Function.Injective σ) (e : Fin 4) (o : EReal) :
    (if σ 0 = rep g e then o * soft (distinct g (σ 0)) (distinct g (σ 1)) (distinct g (σ 0)) else 0)
      + (if σ 1 = rep g e then o * soft (distinct g (σ 0)) (distinct g (σ 1)) (distinct g (σ 1)) else 0)
      = o * weight g e := by
  obtain ⟨h0, hr0, hg0⟩ := sorted_zero g hg σ hσ hord
  obtain ⟨s, hs⟩ : ∃ s : ℝ, distinct g (σ 0) = s := by rw [h0, ← hg0]; exact hg _
  obtain ⟨n0, n1⟩ := soft_nonneg s (distinct g (σ 1)) (by rw [← hs]; exact hord 0 1 (by decide))
  rw [← hs] at n0 n1
  rw [← sorted_weight g hg σ hσ hord hinj e, EReal.left_distrib_of_nonneg]
  · congr 1 <;> split_ifs <;> simp
  · split_ifs
    · exact n0
    · exact le_rfl
  · split_ifs
    · exact n1
    · exact le_rfl

end Sorted

end Cert.Moe
-- ==== Proof.Payload.lean ====
/-
# What the kernel's vector operations compute

Each value the kernel computes, read at an element, at the extended reals: the gates of a row, their weights, and what
two experts answer. Format changes are the identity there.
-/
module

public import proofs.«01_k».proof.Proof.Proto
public import proofs.«01_k».proof.Proof.Top2
public import Idealize.ShloMosaic.Lib.Pointwise

@[expose] public section

noncomputable section

namespace Cert.Moe

open Cert.KernelIdeal Cert.KernelIdeal.Gen
open Idealize.ShloMosaic

variable (x : Vec Ideal S128x512 .f32) (r rr : Vec Ideal S512x2 .f32)

/-- The gates of a row. -/
def gates (p : Fin 128) (e : Fin 4) : EReal := k0_pay2 x r rr (ix2 p e)

/-- The word of negative infinity. -/
theorem bits_bot : Ideal.ofBits FTy.f32 4286578688#32 = (⊥ : EReal) := by simp [Ideal.ofBits, Ideal.ieee]

/-- A select on a decided bit is an `if`. -/
theorem pick_prop {α : Type} (P : Prop) [Decidable P] (a b : α) :
    Scalar.select (BitVec.ofBool (decide P)) a b = if P then a else b := by
  by_cases h : P
  · rw [decide_eq_true h, if_pos h]
    rfl
  · rw [decide_eq_false h, if_neg h]
    rfl

/-- The gates: the device's own two experts first, then its peer's. -/
theorem pay2_apply (p : Fin 128) (e : Fin 4) : (k0_pay2 x r rr : S128x4.Idx → EReal) (ix2 p e)
    = if h : e.val < 2 then ∑ k : Fin 512, x (ix2 p k) * r (ix2 k ⟨e.val, h⟩)
      else ∑ k : Fin 512, x (ix2 p k) * rr (ix2 k ⟨e.val - 2, by omega⟩) := by
  pointwise [k0_pay2]

/-- The largest gate. -/
theorem pay3_apply (p : Fin 128) (e : Fin 1) : (k0_pay3 x r rr : S128x1.Idx → EReal) (ix2 p e) = top (gates x r rr p) := by
  pointwise [k0_pay3]
  rw [bits_bot]
  rfl
/-- Whether a gate is the largest. -/
theorem pay4_apply (p : Fin 128) (e : Fin 4) : (k0_pay4 x r rr : S128x4.Idx → BitVec 1) (ix2 p e)
    = BitVec.ofBool (decide (top (gates x r rr p) ≤ gates x r rr p e)) := by
  pointwise [k0_pay4]
  rw [pay3_apply]
  rfl
/-- The gates without the largest. -/
theorem pay5_apply (p : Fin 128) (e : Fin 4) : (k0_pay5 x r rr : S128x4.Idx → EReal) (ix2 p e) = rest (gates x r rr p) e := by
  pointwise [k0_pay5]
  rw [pay4_apply, bits_bot]
  exact pick_prop _ _ _
/-- The largest of the rest. -/
theorem pay6_apply (p : Fin 128) (e : Fin 1) : (k0_pay6 x r rr : S128x1.Idx → EReal) (ix2 p e) = top (rest (gates x r rr p)) := by
  pointwise [k0_pay6]
  rw [bits_bot]
  simp only [pay5_apply]
  rfl
/-- Whether a gate is the largest of the rest. -/
theorem pay7_apply (p : Fin 128) (e : Fin 4) : (k0_pay7 x r rr : S128x4.Idx → BitVec 1) (ix2 p e)
    = BitVec.ofBool (decide (top (rest (gates x r rr p)) ≤ rest (gates x r rr p) e)) := by
  pointwise [k0_pay7]
  rw [pay6_apply, pay5_apply]
/-- The first weight. -/
theorem pay8_apply (p : Fin 128) (e : Fin 1) : (k0_pay8 x r rr : S128x1.Idx → EReal) (ix2 p e) = first (gates x r rr p) := by
  pointwise [k0_pay8]
  rw [pay6_apply, pay3_apply]
  rfl
/-- The first weight, where the gate is the largest. -/
theorem pay9_apply (p : Fin 128) (e : Fin 4) : (k0_pay9 x r rr : S128x4.Idx → EReal) (ix2 p e)
    = if top (gates x r rr p) ≤ gates x r rr p e then first (gates x r rr p) else 0 := by
  pointwise [k0_pay9]
  rw [pay4_apply, pay8_apply]
  exact pick_prop _ _ _
/-- The second weight. -/
theorem pay10_apply (p : Fin 128) (e : Fin 4) : (k0_pay10 x r rr : S128x4.Idx → EReal) (ix2 p e) = 1 - first (gates x r rr p) := by
  pointwise [k0_pay10]
  rw [pay8_apply]
/-- The weights of the four experts. -/
theorem pay12_apply (p : Fin 128) (e : Fin 4) :
    (k0_pay12 (k0_pay7 x r rr) (k0_pay9 x r rr) (k0_pay10 x r rr) k0_pay11 : S128x4.Idx → EReal) (ix2 p e)
      = weight (gates x r rr p) e := by
  pointwise [k0_pay12, k0_pay11]
  rw [pay9_apply, pay10_apply, pay7_apply]
  exact congrArg (_ + ·) (pick_prop _ _ _)
/-- The weights of the peer's two experts. -/
theorem pay13_apply (p : Fin 128) (e : Fin 2) :
    (k0_pay13 (k0_pay7 x r rr) (k0_pay9 x r rr) (k0_pay10 x r rr) k0_pay11 : S128x2.Idx → EReal) (ix2 p e)
      = weight (gates x r rr p) ⟨2 + e.val, by omega⟩ := by
  pointwise [k0_pay13]
  rw [pay12_apply]

/-- A first matrix, as staged. -/
theorem pay14_apply (v : Vec Ideal S1x512x1024 .f32) (k : Fin 512) (h : Fin 1024) :
    (k0_pay14 v : S512x1024.Idx → EReal) (ix2 k h) = v (ix3 0 k h) := by
  pointwise [k0_pay14]
/-- The other first matrix. -/
theorem pay15_apply (v : Vec Ideal S1x512x1024 .f32) (k : Fin 512) (h : Fin 1024) :
    (k0_pay15 v : S512x1024.Idx → EReal) (ix2 k h) = v (ix3 0 k h) := by
  pointwise [k0_pay15]
/-- A second matrix. -/
theorem pay16_apply (v : Vec Ideal S1x1024x512 .f32) (h : Fin 1024) (j : Fin 512) :
    (k0_pay16 v : S1024x512.Idx → EReal) (ix2 h j) = v (ix3 0 h j) := by
  pointwise [k0_pay16]
/-- The other second matrix. -/
theorem pay17_apply (v : Vec Ideal S1x1024x512 .f32) (h : Fin 1024) (j : Fin 512) :
    (k0_pay17 v : S1024x512.Idx → EReal) (ix2 h j) = v (ix3 0 h j) := by
  pointwise [k0_pay17]

/-- One expert's answer. -/
def ffn (a : Fin 512 → EReal) (u : S1x512x1024.Idx → EReal) (d : S1x1024x512.Idx → EReal) (j : Fin 512) : EReal :=
  ∑ h : Fin 1024, max (∑ k : Fin 512, a k * u (ix3 0 k h)) 0 * d (ix3 0 h j)

variable (w : FVec Ideal S128x4 .f32) (u0 u1 : Vec Ideal S1x512x1024 .f32) (d0 d1 : Vec Ideal S1x1024x512 .f32)

/-- The activations, narrowed. -/
theorem pay1_apply (p : Fin 128) (k : Fin 512) : (k0_pay1 x : S128x512.Idx → EReal) (ix2 p k) = x (ix2 p k) := by
  pointwise [k0_pay1]

/-- What the two experts add to the device's own rows. -/
theorem pay19_apply (s : Vec Ideal S128x512 .bf16) (p : Fin 128) (j : Fin 512) :
    (k0_pay19 w (k0_pay15 u1) (k0_pay16 d0) (k0_pay17 d1) s (k0_pay18 u0 s) : S128x512.Idx → EReal) (ix2 p j)
      = ffn (fun k => s (ix2 p k)) u0 d0 j * w (ix2 p 0) + ffn (fun k => s (ix2 p k)) u1 d1 j * w (ix2 p 1) := by
  pointwise [k0_pay19, k0_pay18]
  simp only [pay14_apply, pay15_apply, pay16_apply, pay17_apply]
  rfl
/-- The same, narrowed to be sent. -/
theorem pay20_apply (s : Vec Ideal S128x512 .bf16) (p : Fin 128) (j : Fin 512) :
    (k0_pay20 w (k0_pay15 u1) (k0_pay16 d0) (k0_pay17 d1) s (k0_pay18 u0 s) : S128x512.Idx → EReal) (ix2 p j)
      = ffn (fun k => s (ix2 p k)) u0 d0 j * w (ix2 p 0) + ffn (fun k => s (ix2 p k)) u1 d1 j * w (ix2 p 1) := by
  refine Eq.trans ?_ (pay19_apply w u0 u1 d0 d1 s p j)
  pointwise [k0_pay20]
/-- What the two experts add to the rows that a peer sent. -/
theorem pay21_apply (s : Vec Ideal S128x512 .bf16) (v : Vec Ideal S128x2 .f32) (p : Fin 128) (j : Fin 512) :
    (k0_pay21 (k0_pay14 u0) (k0_pay15 u1) (k0_pay16 d0) (k0_pay17 d1) s v : S128x512.Idx → EReal) (ix2 p j)
      = ffn (fun k => s (ix2 p k)) u0 d0 j * v (ix2 p 0) + ffn (fun k => s (ix2 p k)) u1 d1 j * v (ix2 p 1) := by
  pointwise [k0_pay21]
  simp only [pay14_apply, pay15_apply, pay16_apply, pay17_apply]
  rfl
/-- The sum of two halves of the answer. -/
theorem pay22_apply (a : FVec Ideal S128x512 .f32) (b : Vec Ideal S128x512 .bf16) (p : Fin 128) (j : Fin 512) :
    (k0_pay22 a b : S128x512.Idx → EReal) (ix2 p j) = (show EReal from a (ix2 p j)) + (show EReal from b (ix2 p j)) := by
  pointwise [k0_pay22]
/-- The sum of the two halves that arrived. -/
theorem pay23_apply (a b : Vec Ideal S128x512 .bf16) (p : Fin 128) (j : Fin 512) :
    (k0_pay23 a b : S128x512.Idx → EReal) (ix2 p j) = (show EReal from a (ix2 p j)) + (show EReal from b (ix2 p j)) := by
  pointwise [k0_pay23]

end Cert.Moe
-- ==== Proof.RefValue.lean ====
/-
# What the reference computes

The reference's result, read at a row and a column: the sum over the four experts of the expert's answer times its
weight. The gates' repetitions are taken out by a minimum over equal gates, the experts are sorted by what is left, the
two first are gathered and put through a softmax, and each is matched with every expert in turn.
-/
module

public import proofs.«01_k».proof.Proof.Gen.ReferenceIdeal.Run
public import proofs.«01_k».proof.Proof.Top2
public import Idealize.ShloMosaic.Lib.Pointwise
public import Idealize.ShloMosaic.Lib.SortFacts

@[expose] public section

noncomputable section

namespace Cert.Moe

open Cert.ReferenceIdeal Cert.ReferenceIdeal.Gen Cert.ReferenceIdeal.Value
open Idealize.ShloMosaic Idealize.ShloMosaic.StableHlo

/-- The gate of expert `e` at row `p`: the row times the expert's column of the router. -/
def gate (X : S512x512.Idx → EReal) (R : S512x4.Idx → EReal) (p : Fin 512) (e : Fin 4) : EReal :=
  ∑ k : Fin 512, X (ix2 p k) * R (ix2 k e)

/-- A fold over four, written out. -/
theorem fold_four {α : Type} (f : α → α → α) [Std.Commutative f] [Std.Associative f] (b : α) (v : Fin 4 → α) :
    (Finset.univ : Finset (Fin 4)).fold f b v = f (v 0) (f (v 1) (f (v 2) (f (v 3) b))) := rfl
/-- A fold over two, written out. -/
theorem fold_two {α : Type} (f : α → α → α) [Std.Commutative f] [Std.Associative f] (b : α) (v : Fin 2 → α) :
    (Finset.univ : Finset (Fin 2)).fold f b v = f (v 0) (f (v 1) b) := rfl

variable (V : Valuation τ sig (Elt Ideal))

/-- The reference's activations. -/
abbrev argX : S512x512.Idx → EReal := V (Proc.devRef .tc main_arg0)
/-- The reference's router. -/
abbrev argR : S512x4.Idx → EReal := V (Proc.devRef .tc main_arg1)
/-- The gates of a row. -/
abbrev row (p : Fin 512) : Fin 4 → EReal := gate (argX V) (argR V) p

/-- The product with the router is the gates. -/
theorem v0_apply (p : Fin 512) (e : Fin 4) : (res_main_v0 V : S512x4.Idx → EReal) (ix2 p e) = row V p e := by
  pointwise [res_main_v0]
  rfl

/-- The last of three axes is the one reduced. -/
theorem reduces3 : S512x4x4.Reduces [2] S512x4 := by decide
/-- The last of two axes is the one reduced. -/
theorem reduces2 : S512x2.Reduces [1] S512 := by decide

/-- A minimum along the last of three axes, at an element. -/
theorem min_row (v : IVec S512x4x4 32) (b : IVec S_ 32) (p : Fin 512) (e : Fin 4) :
    Host.reduce (IntOp.minsi (w := 32)) v b reducesTo_S512x4x4_S512x4_d2 h_S_ (ix2 p e)
      = IntOp.minsi (v (ix3 p e 0)) (IntOp.minsi (v (ix3 p e 1)) (IntOp.minsi (v (ix3 p e 2)) (IntOp.minsi (v (ix3 p e 3)) (b (Shape.Idx.first h_S_))))) := by
  rw [Host.reduce_eq_fold_single IntOp.minsi _ _ _ reduces3]
  refine (fold_four _ _ _).trans ?_
  have hl : ∀ k : Fin 4, reduces3.lift (ix2 p e) k = (ix3 p e k : S512x4x4.Idx) := by
    intro k; funext a; match a with | ⟨0, _⟩ => rfl | ⟨1, _⟩ => rfl | ⟨2, _⟩ => rfl
  exact congrArg₂ IntOp.minsi (congrArg v (hl 0)) (congrArg₂ IntOp.minsi (congrArg v (hl 1))
    (congrArg₂ IntOp.minsi (congrArg v (hl 2)) (congrArg₂ IntOp.minsi (congrArg v (hl 3)) rfl)))

/-- A maximum along a row of two. -/
theorem max_row (v : FVec Ideal S512x2 .f32) (b : FVec Ideal S_ .f32) (p : Fin 512) :
    Host.reduce (FloatOps.maximumf (F := Ideal) (φ := .f32)) v b reducesTo_S512x2_S512_d1 h_S_ (ix1 p)
      = max (v (ix2 p 0)) (max (v (ix2 p 1)) (b (Shape.Idx.first h_S_))) := by
  rw [Host.reduce_eq_fold_single FloatOps.maximumf _ _ _ reduces2]
  refine (fold_two _ _ _).trans ?_
  have hl : ∀ k : Fin 2, reduces2.lift (ix1 p) k = (ix2 p k : S512x2.Idx) := by
    intro k; funext a; match a with | ⟨0, _⟩ => rfl | ⟨1, _⟩ => rfl
  exact congrArg₂ max (congrArg v (hl 0)) (congrArg₂ max (congrArg v (hl 1)) rfl)

/-- The word of an expert. -/
abbrev word (e : Fin 4) : BitVec 32 := BitVec.ofNat 32 e.val

/-- Words of experts are equal when the experts are. -/
theorem word_eq (a b : Fin 4) : IntOp.cmpi CmpIPredicate.eq (word a) (word b) = BitVec.ofBool (decide (a = b)) := by
  revert a b; decide

/-- A select on a decided bit is an `if`. -/
theorem select_prop {α : Type} (P : Prop) [Decidable P] (x y : α) :
    Scalar.select (BitVec.ofBool (decide P)) x y = if P then x else y := by
  by_cases h : P
  · rw [decide_eq_true h, if_pos h]
    rfl
  · rw [decide_eq_false h, if_neg h]
    rfl

/-- The least of four experts that satisfy a condition, as words, when one does. -/
theorem least_word (A B C D : Prop) [Decidable A] [Decidable B] [Decidable C] [Decidable D] (h : ¬A → ¬B → ¬C → D) :
    IntOp.minsi (if A then 0#32 else 4#32) (IntOp.minsi (if B then 1#32 else 4#32)
      (IntOp.minsi (if C then 2#32 else 4#32) (IntOp.minsi (if D then 3#32 else 4#32) 2147483647#32)))
      = word (if A then 0 else if B then 1 else if C then 2 else 3) := by
  by_cases a : A <;> by_cases b : B <;> by_cases c : C <;> by_cases d : D <;>
    simp only [a, b, c, d, if_true, if_false] <;> first | decide | exact absurd (h a b c) d

/-- The least expert of equal gate, as a word. -/
theorem v8_apply (p : Fin 512) (e : Fin 4) :
    (res_main_v8 V : S512x4.Idx → BitVec 32) (ix2 p e) = word (rep (row V p) e) := by
  unfold res_main_v8
  refine (min_row _ _ p e).trans ?_
  pointwise [res_main_v1]
  simp only [v0_apply]
  have hk : id (constantI S_ 32 4#32) ix0 = 4#32 := rfl
  simp only [hk]
  refine least_word _ _ _ _ fun a b c => ?_
  fin_cases e
  · exact absurd rfl a
  · exact absurd rfl b
  · exact absurd rfl c
  · rfl

/-- The gates with every repetition taken out. -/
theorem v12_apply (p : Fin 512) (e : Fin 4) :
    (res_main_v12 V : S512x4.Idx → EReal) (ix2 p e) = distinct (row V p) e := by
  pointwise [res_main_v12, res_main_v1]
  have hk : id (constant (F := Ideal) S_ FTy.f32 4286578688#32) ix0 = (⊥ : EReal) := by
    show Ideal.ofBits FTy.f32 4286578688#32 = ⊥
    simp [Ideal.ofBits, Ideal.ieee]
  simp only [v0_apply, v8_apply, hk]
  refine (congrArg (fun b => Scalar.select b _ _) (word_eq _ _)).trans ?_
  exact select_prop _ _ _

/-- Their negations, the keys of the sort. -/
theorem v13_apply (p : Fin 512) (e : Fin 4) :
    (res_main_v13 V : S512x4.Idx → EReal) (ix2 p e) = -distinct (row V p) e := by
  pointwise [res_main_v13]
  rw [v12_apply]

/-- A sort of rows of four with a companion: the companion at the sorted position. -/
theorem sort_row (x : FVec Ideal S512x4 .f32) (y : IVec S512x4 32) (p : Fin 512) (i : Fin 4) :
    (Host.sort2 S512x4 1 (comparator_f32_i32_d1 (F := Ideal)) x y).2 (ix2 p i)
      = y (ix2 p (sortedFrom (fun k k' : Fin 4 => comparator_f32_i32_d1 (F := Ideal) (x (ix2 p k), y (ix2 p k)) (x (ix2 p k'), y (ix2 p k')) == 1#1) i)) := by
  have ha : ∀ k : Fin 4, Shape.Idx.along (ix2 p i : S512x4.Idx) (1 : Fin 2) k = (ix2 p k : S512x4.Idx) := by
    intro k; funext a; match a with | ⟨0, _⟩ => rfl | ⟨1, _⟩ => rfl
  have hb : (fun k : Fin 4 => Shape.Idx.along (ix2 p i : S512x4.Idx) (1 : Fin 2) k) = fun k => (ix2 p k : S512x4.Idx) := funext ha
  refine Eq.trans (b := y ((fun k : Fin 4 => Shape.Idx.along (ix2 p i : S512x4.Idx) (1 : Fin 2) k) (sortedFrom (fun k k' : Fin 4 =>
    comparator_f32_i32_d1 (F := Ideal) (x ((fun k : Fin 4 => Shape.Idx.along (ix2 p i : S512x4.Idx) (1 : Fin 2) k) k), y ((fun k : Fin 4 => Shape.Idx.along (ix2 p i : S512x4.Idx) (1 : Fin 2) k) k))
      (x ((fun k : Fin 4 => Shape.Idx.along (ix2 p i : S512x4.Idx) (1 : Fin 2) k) k'), y ((fun k : Fin 4 => Shape.Idx.along (ix2 p i : S512x4.Idx) (1 : Fin 2) k) k')) == 1#1) i))) rfl ?_
  rw [hb]
/-- The sort's comparison is the order of the extended reals. -/
theorem comp_apply (l r : EReal) (a b : BitVec 32) : comparator_f32_i32_d1 (F := Ideal) (l, a) (r, b) = BitVec.ofBool (decide (l < r)) := by
  have hz : ∀ z : EReal, (if z = 0 then 0 else z) = z := by
    intro z; split_ifs with h
    · exact h.symm
    · rfl
  unfold comparator_f32_i32_d1
  pointwise
  simp only [ne_eq, not_true_eq_false, if_false, hz]
  rfl

/-- The experts by falling gate, repetitions last. -/
def order (g : Fin 4 → EReal) : Fin 4 → Fin 4 :=
  sortedFrom (fun k k' => decide (-distinct g k < -distinct g k'))

/-- Along that order the gates do not rise. -/
theorem order_le (g : Fin 4 → EReal) (i j : Fin 4) (h : i < j) : distinct g (order g j) ≤ distinct g (order g i) := by
  have hn := sortedFrom_noInversion (fun k k' => decide (-distinct g k < -distinct g k'))
    (fun k k' => decide (-distinct g k < -distinct g k'))
    (fun a b hab => decide_eq_false (not_lt_of_gt (of_decide_eq_true hab))) (fun _ _ hab => hab)
    (fun a b c hab hbc => decide_eq_false
      (not_lt.mpr ((not_lt.mp (of_decide_eq_false hbc)).trans (not_lt.mp (of_decide_eq_false hab))))) i j h
  exact EReal.neg_le_neg_iff.mp (not_lt.mp (of_decide_eq_false hn))

/-- The two first experts of that order, as words. -/
theorem v15_apply (p : Fin 512) (i : Fin 2) :
    (res_main_v15 V : S512x2.Idx → BitVec 32) (ix2 p i) = word (order (row V p) (i.castLE (by decide))) := by
  pointwise [res_main_v15]
  refine (sort_row _ _ p _).trans ?_
  simp only [comp_apply, v13_apply]
  have hb : ∀ b : Bool, (BitVec.ofBool b == 1#1) = b := by decide
  simp only [hb]
  rfl

/-- A gather along a row, at an index that is a word of one of the four columns. -/
theorem pick_row (x : FVec Ideal S512x4 .f32) (idx : IVec S512x2x1 32) (p : Fin 512) (i : Fin 2) (n : Fin 4)
    (h : idx (ix3 p i 0) = word n) :
    Host.gather gather_S512x4_S512x2x1_S512x2_n_1_0_0_1_2_11 x idx (ix2 p i) = x (ix2 p n) := by
  have hoff : ∀ a, gather_S512x4_S512x2x1_S512x2_n_1_0_0_1_2_11.offCoord (ix2 p i) a = 0 := fun a =>
    GatherDims.offCoord_eq_zero _ _ _ (by revert a; decide)
  have hrow : gather_S512x4_S512x2x1_S512x2_n_1_0_0_1_2_11.start (ix2 p i) idx 0 = 0 :=
    GatherDims.start_batching _ _ _ _ (by decide)
  have hbatch : gather_S512x4_S512x2x1_S512x2_n_1_0_0_1_2_11.batchCoord (ix2 p i) 1 = 0 :=
    GatherDims.batchCoord_eq_zero _ _ _ (by decide)
  have hat : gather_S512x4_S512x2x1_S512x2_n_1_0_0_1_2_11.siIdx (ix2 p i) ⟨0, by decide⟩ = ix3 p i 0 := by
    funext a; match a with | ⟨0, _⟩ => rfl | ⟨1, _⟩ => rfl | ⟨2, _⟩ => rfl
  have hcol : gather_S512x4_S512x2x1_S512x2_n_1_0_0_1_2_11.start (ix2 p i) idx 1 = n.val := by
    refine (dif_pos (by decide)).trans ?_
    have hn : ∀ n : Fin 4, min (word n).toInt.toNat 3 = n.val := by decide
    exact (congrArg (fun b : BitVec 32 => min b.toInt.toNat 3) ((congrArg idx hat).trans h)).trans (hn n)
  refine congrArg x (funext fun a => Fin.ext ?_)
  match a with
  | ⟨0, _⟩ => exact (congrArg₂ (· + ·) (congrArg (· + _) hrow) (hoff 0)).trans (Nat.zero_add _)
  | ⟨1, _⟩ => exact congrArg₂ (· + ·) (congrArg₂ (· + ·) hcol hbatch) (hoff 1)

/-- The gates of the two first experts. -/
theorem v16_apply (p : Fin 512) (i : Fin 2) :
    (res_main_v16 V : S512x2.Idx → EReal) (ix2 p i) = distinct (row V p) (order (row V p) (i.castLE (by decide))) := by
  refine (pick_row _ _ p i (order (row V p) (i.castLE (by decide))) ?_).trans (v12_apply V p _)
  pointwise
  simp only [v15_apply]
  have hw : ∀ n : Fin 4, Scalar.select (IntOp.cmpi CmpIPredicate.slt (word n) 0#32) (IntOp.addi (word n) 4#32) (word n) = word n := by
    decide
  exact hw _

/-- The gates of the two first experts, as an array. -/
abbrev picked : S512x2.Idx → EReal := res_main_v16 V

/-- Their exponentials, the larger taken away. -/
theorem v21_apply (p : Fin 512) (i : Fin 2) : (res_main_v21 V : S512x2.Idx → EReal) (ix2 p i) =
    Ideal.exp (picked V (ix2 p i) - max (picked V (ix2 p 0)) (picked V (ix2 p 1))) := by
  unfold res_main_v21
  generalize hM : Host.reduce _ _ _ _ _ = M
  pointwise
  subst hM
  have hk : constant (F := Ideal) S_ FTy.f32 4286578688#32 (Shape.Idx.first h_S_) = (⊥ : EReal) := by
    show Ideal.ofBits FTy.f32 4286578688#32 = ⊥
    simp [Ideal.ofBits, Ideal.ieee]
  rw [max_row, hk, max_bot_right]

/-- Their softmax. -/
theorem v25_apply (p : Fin 512) (i : Fin 2) : (res_main_v25 V : S512x2.Idx → EReal) (ix2 p i) =
    soft (picked V (ix2 p 0)) (picked V (ix2 p 1)) (picked V (ix2 p i)) := by
  pointwise [res_main_v25]
  rw [Fin.sum_univ_two]
  exact congrArg₂ Ideal.div (v21_apply V p i) (congrArg₂ (· + ·) (v21_apply V p 0) (v21_apply V p 1))

/-- What expert `e` answers at row `p`, column `j`. -/
def expert (X : S512x512.Idx → EReal) (W1 : S4x512x1024.Idx → EReal) (W2 : S4x1024x512.Idx → EReal) (p j : Fin 512) (e : Fin 4) : EReal :=
  ∑ h : Fin 1024, max (∑ k : Fin 512, X (ix2 p k) * W1 (ix3 e k h)) 0 * W2 (ix3 e h j)

/-- The experts' first matrices. -/
abbrev argU : S4x512x1024.Idx → EReal := V (Proc.devRef .tc main_arg2)
/-- The experts' second matrices. -/
abbrev argD : S4x1024x512.Idx → EReal := V (Proc.devRef .tc main_arg3)

/-- The result: every expert's answer times its weight, summed. Asked of the gates: that they are real. -/
theorem v178_apply (hg : ∀ p e, ∃ y : ℝ, row V p e = y) (p j : Fin 512) : (res_main_v178 V : S512x512.Idx → EReal) (ix2 p j) =
    ∑ e, expert (argX V) (argU V) (argD V) p j e * weight (row V p) e := by
  have ht := sorted_term (row V p) (hg p) (order (row V p)) (sortedFrom_surjective _) (order_le _) (sortedFrom_injective _)
  have hz : id (constant (F := Ideal) S_ FTy.f32 0#32) ix0 = (0 : EReal) := by
    show Ideal.ofBits FTy.f32 0#32 = 0
    simp [Ideal.ofBits, Ideal.ieee]
  pointwise [res_main_v178, res_main_v102]
  simp only [v15_apply, v8_apply, v25_apply, v16_apply, word_eq, select_prop, hz]
  rw [Fin.sum_univ_four, ← ht 0, ← ht 1, ← ht 2, ← ht 3]
  have hc : ∀ a0 a1 a2 a3 b0 b1 b2 b3 : EReal, ((((((a0 + a1) + a2) + a3) + b0) + b1) + b2) + b3
      = (((a0 + b0) + (a1 + b1)) + (a2 + b2)) + (a3 + b3) := by
    intros; abel
  exact hc _ _ _ _ _ _ _ _
end Cert.Moe
-- ==== Proof.KernelValue.lean ====
/-
# What the kernel's result block holds

Every device holds its blocks of four whole arrays. Its result block, read at a row and a column, is then the sum over
all four experts of the expert's answer times its weight: two of them are its own (or its peer's along `x`, which has
the same two), the other two arrive.
-/
module

public import proofs.«01_k».proof.Proof.Payload
public import proofs.«01_k».proof.Proof.RefValue
public import Idealize.ShloMosaic.Lib.Layout

@[expose] public section

noncomputable section

namespace Cert.Moe

open Cert.KernelIdeal Cert.KernelIdeal.Gen
open Idealize.ShloMosaic
open Idealize.ShloMosaic.TcCoe

/-! ## Where a device's blocks lie in the whole arrays -/

/-- Row `p` of device `c`'s block of rows, among all. -/
def rowOf (c : Dev nD) (p : Fin 256) : Fin 512 := ⟨256 * (c.val % 2) + p.val, by omega⟩
/-- The device's own expert `e`, among all. -/
def expertOf (c : Dev nD) (e : Fin 2) : Fin 4 := ⟨2 * (c.val % 2) + e.val, by omega⟩
/-- Row `q` of the half of the rows that the device works on, among its own. -/
def halfRow (c : Dev nD) (q : Fin 128) : Fin 256 :=
  ⟨128 * (c.val / 2) + q.val, by have h : c.val < 4 := c.isLt; omega⟩

/-- The block a device holds along an axis cut by `y`. -/
theorem meshLin_y : ∀ c : Dev nD, Layout.meshLin [2, 2] c.val [1] = c.val % 2 := by decide

/-- A device's block of rows, at an element. -/
theorem block_rows (c : Dev nD) (v : (⟨2, ![512, 512]⟩ : Shape).Idx → EReal) (p : Fin 256) (k : Fin 512) :
    (Layout.blockN ⟨2, ![256, 512]⟩ ⟨2, ![512, 512]⟩ (Layout.meshBlock [2, 2] ![[1], []] c) v : S256x512.Idx → EReal) (ix2 p k) = v (ix2 (rowOf c p) k) := by
  refine congrArg v (funext fun a => Fin.ext ?_)
  match a with
  | ⟨0, _⟩ =>
    show Layout.meshLin [2, 2] c.val [1] * 256 + p.val = 256 * (c.val % 2) + p.val
    rw [meshLin_y, Nat.mul_comm]
  | ⟨1, _⟩ => exact (congrArg (· + k.val) (Nat.zero_mul 512)).trans (Nat.zero_add _)

/-- A device's block of columns, at an element. -/
theorem block_cols (c : Dev nD) (v : (⟨2, ![512, 4]⟩ : Shape).Idx → EReal) (k : Fin 512) (e : Fin 2) :
    (Layout.blockN ⟨2, ![512, 2]⟩ ⟨2, ![512, 4]⟩ (Layout.meshBlock [2, 2] ![[], [1]] c) v : S512x2.Idx → EReal) (ix2 k e) = v (ix2 k (expertOf c e)) := by
  refine congrArg v (funext fun a => Fin.ext ?_)
  match a with
  | ⟨0, _⟩ => exact (congrArg (· + k.val) (Nat.zero_mul 512)).trans (Nat.zero_add _)
  | ⟨1, _⟩ =>
    show Layout.meshLin [2, 2] c.val [1] * 2 + e.val = 2 * (c.val % 2) + e.val
    rw [meshLin_y, Nat.mul_comm]

/-- A device's first matrices, at an element. -/
theorem block_up (c : Dev nD) (v : (⟨3, ![4, 512, 1024]⟩ : Shape).Idx → EReal) (e : Fin 2) (k : Fin 512) (h : Fin 1024) :
    (Layout.blockN ⟨3, ![2, 512, 1024]⟩ ⟨3, ![4, 512, 1024]⟩ (Layout.meshBlock [2, 2] ![[1], [], []] c) v : S2x512x1024.Idx → EReal) (ix3 e k h)
      = v (ix3 (expertOf c e) k h) := by
  refine congrArg v (funext fun a => Fin.ext ?_)
  match a with
  | ⟨0, _⟩ =>
    show Layout.meshLin [2, 2] c.val [1] * 2 + e.val = 2 * (c.val % 2) + e.val
    rw [meshLin_y, Nat.mul_comm]
  | ⟨1, _⟩ => exact (congrArg (· + k.val) (Nat.zero_mul 512)).trans (Nat.zero_add _)
  | ⟨2, _⟩ => exact (congrArg (· + h.val) (Nat.zero_mul 1024)).trans (Nat.zero_add _)

/-- A device's second matrices, at an element. -/
theorem block_down (c : Dev nD) (v : (⟨3, ![4, 1024, 512]⟩ : Shape).Idx → EReal) (e : Fin 2) (h : Fin 1024) (j : Fin 512) :
    (Layout.blockN ⟨3, ![2, 1024, 512]⟩ ⟨3, ![4, 1024, 512]⟩ (Layout.meshBlock [2, 2] ![[1], [], []] c) v : S2x1024x512.Idx → EReal) (ix3 e h j)
      = v (ix3 (expertOf c e) h j) := by
  refine congrArg v (funext fun a => Fin.ext ?_)
  match a with
  | ⟨0, _⟩ =>
    show Layout.meshLin [2, 2] c.val [1] * 2 + e.val = 2 * (c.val % 2) + e.val
    rw [meshLin_y, Nat.mul_comm]
  | ⟨1, _⟩ => exact (congrArg (· + h.val) (Nat.zero_mul 1024)).trans (Nat.zero_add _)
  | ⟨2, _⟩ => exact (congrArg (· + j.val) (Nat.zero_mul 512)).trans (Nat.zero_add _)

/-! ## The devices' blocks of four whole arrays -/

variable (m : (ℓ : Loc nD τ sig) → Buf (Elt Ideal) ℓ)
variable (X : (⟨2, ![512, 512]⟩ : Shape).Idx → EReal) (R : (⟨2, ![512, 4]⟩ : Shape).Idx → EReal)
variable (U : (⟨3, ![4, 512, 1024]⟩ : Shape).Idx → EReal) (D : (⟨3, ![4, 1024, 512]⟩ : Shape).Idx → EReal)

/-- Every device holds its blocks of the four arrays. -/
structure Placed : Prop where
  rows : ∀ (c : Dev nD) (p : Fin 256) (k : Fin 512),
    (m ((c : Thread nD τ).loc main_arg0) : S256x512.Idx → EReal) (ix2 p k) = X (ix2 (rowOf c p) k)
  cols : ∀ (c : Dev nD) (k : Fin 512) (e : Fin 2),
    (m ((c : Thread nD τ).loc main_arg1) : S512x2.Idx → EReal) (ix2 k e) = R (ix2 k (expertOf c e))
  up : ∀ (c : Dev nD) (e : Fin 2) (k : Fin 512) (h : Fin 1024),
    (m ((c : Thread nD τ).loc main_arg2) : S2x512x1024.Idx → EReal) (ix3 e k h) = U (ix3 (expertOf c e) k h)
  down : ∀ (c : Dev nD) (e : Fin 2) (h : Fin 1024) (j : Fin 512),
    (m ((c : Thread nD τ).loc main_arg3) : S2x1024x512.Idx → EReal) (ix3 e h j) = D (ix3 (expertOf c e) h j)

variable {m X R U D} (H : Placed m X R U D)

/-- Where row `q` of the half lies. -/
theorem own_emb (c : Dev nD) (q : Fin 128) (j : Fin 512) :
    (oHalf1 c).view.emb (ix2 q j) = (ix2 (halfRow c q) j : S256x512.Idx) := by
  funext a; refine Fin.ext ?_
  match a with
  | ⟨0, _⟩ =>
    show k0_off1 c 0 + 1 * q.val = 128 * (c.val / 2) + q.val
    rw [k0_off1_eq, Nat.one_mul]; rfl
  | ⟨1, _⟩ =>
    show k0_off1 c 1 + 1 * j.val = j.val
    rw [k0_off1_eq, Nat.one_mul]; exact Nat.zero_add _

/-- The peer along `x` works on the other half. -/
theorem px_half : ∀ c : Dev nD, 128 - 128 * (c.val / 2) = 128 * ((px c).val / 2) := by decide +kernel
/-- It holds the same blocks. -/
theorem px_side : ∀ c : Dev nD, (px c).val % 2 = c.val % 2 := by decide +kernel
/-- The peer along `y` holds the others. -/
theorem py_side : ∀ c : Dev nD, (py c).val % 2 = 1 - c.val % 2 := by decide +kernel
/-- The diagonal peer is the `y` peer of the `x` peer. -/
theorem pd_eq : ∀ c : Dev nD, pd c = py (px c) := by decide +kernel

/-- Where row `q` of the other half lies. -/
theorem other_emb (c : Dev nD) (q : Fin 128) (j : Fin 512) :
    (oHalf2 c).view.emb (ix2 q j) = (ix2 (halfRow (px c) q) j : S256x512.Idx) := by
  funext a; refine Fin.ext ?_
  match a with
  | ⟨0, _⟩ =>
    show k0_off2 c 0 + 1 * q.val = 128 * ((px c).val / 2) + q.val
    rw [k0_off2_eq, Nat.one_mul, ← px_half]; rfl
  | ⟨1, _⟩ =>
    show k0_off2 c 1 + 1 * j.val = j.val
    rw [k0_off2_eq, Nat.one_mul]; exact Nat.zero_add _

include H

/-- The rows the device works on. -/
theorem xhv_apply (c : Dev nD) (q : Fin 128) (k : Fin 512) :
    (xhv m c : S128x512.Idx → EReal) (ix2 q k) = X (ix2 (rowOf c (halfRow c q)) k) := by
  refine Eq.trans ?_ (H.rows c (halfRow c q) k)
  exact congrArg (m ((c : Thread nD τ).loc main_arg0)) (own_emb c q k)
/-- The same as sent to its peer. -/
theorem xsv_apply (c : Dev nD) (q : Fin 128) (k : Fin 512) :
    (xsv m c : S128x512.Idx → EReal) (ix2 q k) = X (ix2 (rowOf c (halfRow c q)) k) :=
  (pay1_apply _ q k).trans (xhv_apply H c q k)
/-- Its columns of the router. -/
theorem rv_apply (c : Dev nD) (k : Fin 512) (e : Fin 2) :
    (rv m c : S512x2.Idx → EReal) (ix2 k e) = R (ix2 k (expertOf c e)) := by
  refine Eq.trans ?_ (H.cols c k e)
  refine congrArg (m ((c : Thread nD τ).loc main_arg1)) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
/-- Its first expert's first matrix. -/
theorem u0v_apply (c : Dev nD) (k : Fin 512) (h : Fin 1024) :
    (u0v m c : S1x512x1024.Idx → EReal) (ix3 0 k h) = U (ix3 (expertOf c 0) k h) := by
  refine Eq.trans ?_ (H.up c 0 k h)
  refine congrArg (m ((c : Thread nD τ).loc main_arg2)) (funext fun a => Fin.ext ?_)
  match a with
  | ⟨0, _⟩ => rfl
  | ⟨1, _⟩ => exact (congrArg (0 + ·) (Nat.one_mul _)).trans (Nat.zero_add _)
  | ⟨2, _⟩ => exact (congrArg (0 + ·) (Nat.one_mul _)).trans (Nat.zero_add _)
/-- Its second expert's first matrix. -/
theorem u1v_apply (c : Dev nD) (k : Fin 512) (h : Fin 1024) :
    (u1v m c : S1x512x1024.Idx → EReal) (ix3 0 k h) = U (ix3 (expertOf c 1) k h) := by
  refine Eq.trans ?_ (H.up c 1 k h)
  refine congrArg (m ((c : Thread nD τ).loc main_arg2)) (funext fun a => Fin.ext ?_)
  match a with
  | ⟨0, _⟩ => rfl
  | ⟨1, _⟩ => exact (congrArg (0 + ·) (Nat.one_mul _)).trans (Nat.zero_add _)
  | ⟨2, _⟩ => exact (congrArg (0 + ·) (Nat.one_mul _)).trans (Nat.zero_add _)
/-- Its first expert's second matrix. -/
theorem d0v_apply (c : Dev nD) (h : Fin 1024) (j : Fin 512) :
    (d0v m c : S1x1024x512.Idx → EReal) (ix3 0 h j) = D (ix3 (expertOf c 0) h j) := by
  refine Eq.trans ?_ (H.down c 0 h j)
  refine congrArg (m ((c : Thread nD τ).loc main_arg3)) (funext fun a => Fin.ext ?_)
  match a with
  | ⟨0, _⟩ => rfl
  | ⟨1, _⟩ => exact (congrArg (0 + ·) (Nat.one_mul _)).trans (Nat.zero_add _)
  | ⟨2, _⟩ => exact (congrArg (0 + ·) (Nat.one_mul _)).trans (Nat.zero_add _)
/-- Its second expert's second matrix. -/
theorem d1v_apply (c : Dev nD) (h : Fin 1024) (j : Fin 512) :
    (d1v m c : S1x1024x512.Idx → EReal) (ix3 0 h j) = D (ix3 (expertOf c 1) h j) := by
  refine Eq.trans ?_ (H.down c 1 h j)
  refine congrArg (m ((c : Thread nD τ).loc main_arg3)) (funext fun a => Fin.ext ?_)
  match a with
  | ⟨0, _⟩ => rfl
  | ⟨1, _⟩ => exact (congrArg (0 + ·) (Nat.one_mul _)).trans (Nat.zero_add _)
  | ⟨2, _⟩ => exact (congrArg (0 + ·) (Nat.one_mul _)).trans (Nat.zero_add _)

/-! ## The gates and their weights -/

omit H in
/-- The order in which the device on side `y` keeps the experts: its own two first. -/
def turn (c : Dev nD) : Equiv.Perm (Fin 4) := Equiv.addRight (expertOf c 0)

omit H in
/-- Its own experts come first. -/
theorem turn_own : ∀ (c : Dev nD) (e : Fin 2), turn c ⟨e.val, by omega⟩ = expertOf c e := by decide +kernel
omit H in
/-- Then its peer's. -/
theorem turn_other : ∀ (c : Dev nD) (e : Fin 2), turn c ⟨2 + e.val, by omega⟩ = expertOf (py c) e := by decide +kernel

/-- The gates the device computes are the row's, in its own order of the experts. -/
theorem gates_eq (c : Dev nD) (q : Fin 128) :
    gates (xhv m c) (rv m c) (rv m (py c)) q = fun e => gate X R (rowOf c (halfRow c q)) (turn c e) := by
  funext e
  refine (pay2_apply _ _ _ q e).trans ?_
  split
  · rename_i h
    refine Finset.sum_congr rfl fun k _ => ?_
    exact congrArg₂ (· * ·) (xhv_apply H c q k) ((rv_apply H c k _).trans (congrArg (fun e' => R (ix2 k e')) (turn_own c ⟨e.val, h⟩).symm))
  · rename_i h
    refine Finset.sum_congr rfl fun k _ => ?_
    refine congrArg₂ (· * ·) (xhv_apply H c q k) ((rv_apply H (py c) k _).trans (congrArg (fun e' => R (ix2 k e')) ?_))
    refine (turn_other c ⟨e.val - 2, by omega⟩).symm.trans (congrArg (turn c) (Fin.ext ?_))
    show 2 + (e.val - 2) = e.val
    omega

/-- The weight the device gives an expert is that expert's weight. -/
theorem wtv_apply (c : Dev nD) (q : Fin 128) (e : Fin 4) :
    (wtv m c : S128x4.Idx → EReal) (ix2 q e) = weight (gate X R (rowOf c (halfRow c q))) (turn c e) := by
  refine (pay12_apply _ _ _ q e).trans ?_
  rw [gates_eq H]
  exact weight_comp _ _ _
/-- And so are the weights it sends. -/
theorem wsv_apply (c : Dev nD) (q : Fin 128) (e : Fin 2) :
    (wsv m c : S128x2.Idx → EReal) (ix2 q e) = weight (gate X R (rowOf c (halfRow c q))) (expertOf (py c) e) := by
  refine (pay13_apply _ _ _ q e).trans ?_
  rw [gates_eq H]
  exact (weight_comp _ _ _).trans (congrArg _ (turn_other c e))

/-! ## The experts -/

/-- What its first expert answers. -/
theorem ffn_zero (c : Dev nD) (p j : Fin 512) : ffn (fun k => X (ix2 p k)) (u0v m c) (d0v m c) j = expert X U D p j (expertOf c 0) := by
  unfold ffn expert
  simp only [u0v_apply H, d0v_apply H]
/-- What its second expert answers. -/
theorem ffn_one (c : Dev nD) (p j : Fin 512) : ffn (fun k => X (ix2 p k)) (u1v m c) (d1v m c) j = expert X U D p j (expertOf c 1) := by
  unfold ffn expert
  simp only [u1v_apply H, d1v_apply H]

omit H in
/-- What an expert adds to the result. -/
def share (X : (⟨2, ![512, 512]⟩ : Shape).Idx → EReal) (R : (⟨2, ![512, 4]⟩ : Shape).Idx → EReal)
    (U : (⟨3, ![4, 512, 1024]⟩ : Shape).Idx → EReal) (D : (⟨3, ![4, 1024, 512]⟩ : Shape).Idx → EReal) (p j : Fin 512) (e : Fin 4) : EReal :=
  expert X U D p j e * weight (gate X R p) e

/-- A row the device works on. -/
theorem xsv_row (c : Dev nD) (q : Fin 128) :
    (fun k => (xsv m c : S128x512.Idx → EReal) (ix2 q k)) = fun k => X (ix2 (rowOf c (halfRow c q)) k) :=
  funext fun k => xsv_apply H c q k

/-- What its two experts add to its rows. -/
theorem accv_apply (c : Dev nD) (q : Fin 128) (j : Fin 512) : (accv m c : S128x512.Idx → EReal) (ix2 q j)
    = share X R U D (rowOf c (halfRow c q)) j (expertOf c 0) + share X R U D (rowOf c (halfRow c q)) j (expertOf c 1) := by
  refine (pay19_apply _ _ _ _ _ _ q j).trans ?_
  rw [xsv_row H, ffn_zero H, ffn_one H, wtv_apply H, wtv_apply H]
  exact congrArg₂ (· + ·) (congrArg (_ * weight _ ·) (turn_own c 0)) (congrArg (_ * weight _ ·) (turn_own c 1))
/-- The same as sent. -/
theorem esv_apply (c : Dev nD) (q : Fin 128) (j : Fin 512) : (esv m c : S128x512.Idx → EReal) (ix2 q j)
    = share X R U D (rowOf c (halfRow c q)) j (expertOf c 0) + share X R U D (rowOf c (halfRow c q)) j (expertOf c 1) :=
  ((pay20_apply _ _ _ _ _ _ q j).trans (pay19_apply _ _ _ _ _ _ q j).symm).trans (accv_apply H c q j)

/-- What comes back from the peer along `y`: its two experts' answers for the device's rows. -/
theorem psv_apply (c : Dev nD) (q : Fin 128) (j : Fin 512) : (psv m (py c) : S128x512.Idx → EReal) (ix2 q j)
    = share X R U D (rowOf c (halfRow c q)) j (expertOf (py c) 0) + share X R U D (rowOf c (halfRow c q)) j (expertOf (py c) 1) := by
  refine (pay21_apply _ _ _ _ _ _ q j).trans ?_
  rw [py_py, xsv_row H, ffn_zero H, ffn_one H, wsv_apply H, wsv_apply H]
  rfl

omit H in
/-- All four experts are the device's two and its peer's two. -/
theorem four_experts (c : Dev nD) (f : Fin 4 → EReal) :
    (f (expertOf c 0) + f (expertOf c 1)) + (f (expertOf (py c) 0) + f (expertOf (py c) 1)) = ∑ e, f e := by
  rw [← Equiv.sum_comp (turn c) f, Fin.sum_univ_four, ← turn_own, ← turn_own, ← turn_other, ← turn_other]
  exact (add_assoc _ _ _).symm

/-- The half of the result that it works on. -/
theorem fvv_apply (c : Dev nD) (q : Fin 128) (j : Fin 512) :
    (fvv m c : S128x512.Idx → EReal) (ix2 q j) = ∑ e, share X R U D (rowOf c (halfRow c q)) j e := by
  refine (pay22_apply _ _ q j).trans ?_
  exact (congrArg₂ (· + ·) (accv_apply H c q j) (psv_apply H c q j)).trans (four_experts c _)

omit H in
/-- The peer along `x` holds the same rows. -/
theorem rowOf_px (c : Dev nD) (p : Fin 256) : rowOf (px c) p = rowOf c p :=
  Fin.ext (congrArg (256 * · + p.val) (px_side c))

/-- The other half. -/
theorem fwv_apply (c : Dev nD) (q : Fin 128) (j : Fin 512) :
    (fwv m c : S128x512.Idx → EReal) (ix2 q j) = ∑ e, share X R U D (rowOf c (halfRow (px c) q)) j e := by
  refine (pay23_apply _ _ q j).trans ?_
  rw [pd_eq, ← rowOf_px c]
  exact (congrArg₂ (· + ·) (esv_apply H (px c) q j) (psv_apply H (px c) q j)).trans (four_experts (px c) _)

/-! ## The result block -/

omit H in
/-- The two halves share no element. -/
theorem own_not_other (c : Dev nD) (q : Fin 128) (j : Fin 512) :
    (ix2 (halfRow c q) j : S256x512.Idx) ∉ (oHalf2 c).view.setOn Finset.univ := by
  intro h
  obtain ⟨y, -, hy⟩ := Finset.mem_map.mp h
  obtain ⟨q', j', rfl⟩ : ∃ (q' : Fin 128) (j' : Fin 512), y = ix2 q' j' :=
    ⟨y 0, y 1, by funext a; match a with | ⟨0, _⟩ => rfl | ⟨1, _⟩ => rfl⟩
  have h0 : halfRow (px c) q' = halfRow c q := congrFun ((other_emb c q' j').symm.trans hy) 0
  have h1 : 128 * ((px c).val / 2) + q'.val = 128 * (c.val / 2) + q.val := congrArg Fin.val h0
  have h2 := px_half c
  have h3 : c.val < 4 := c.isLt
  omega

/-- The result block: all four experts' shares, summed. -/
theorem outv_apply (c : Dev nD) (p : Fin 256) (j : Fin 512) :
    (outv m c : S256x512.Idx → EReal) (ix2 p j) = ∑ e, share X R U D (rowOf c p) j e := by
  by_cases hp : p.val / 128 = c.val / 2
  · obtain ⟨q, rfl⟩ : ∃ q : Fin 128, p = halfRow c q :=
      ⟨⟨p.val - 128 * (c.val / 2), by omega⟩, Fin.ext (show p.val = 128 * (c.val / 2) + (p.val - 128 * (c.val / 2)) by omega)⟩
    refine (View.write_of_not_mem _ _ _ (own_not_other c q j)).trans ?_
    rw [← own_emb c q j]
    exact (View.write_emb_of_mem _ _ (Finset.mem_univ _)).trans (fvv_apply H c q j)
  · have hc : c.val < 4 := c.isLt
    have h2 := px_half c
    obtain ⟨q, rfl⟩ : ∃ q : Fin 128, p = halfRow (px c) q :=
      ⟨⟨p.val - 128 * ((px c).val / 2), by omega⟩,
        Fin.ext (show p.val = 128 * ((px c).val / 2) + (p.val - 128 * ((px c).val / 2)) by omega)⟩
    rw [← other_emb c q j]
    exact (View.write_emb_of_mem _ _ (Finset.mem_univ _)).trans (fwv_apply H c q j)

end Cert.Moe
-- ==== Proof.Algebraic.lean ====
/-
# The kernel and the reference agree

From the devices' blocks of the reference's arrays, whose activations and router are finite, the kernel's result blocks
are the blocks of the reference's result.
-/
module

public import proofs.«01_k».proof.Defs
public import proofs.«01_k».proof.Proof.Launch
public import proofs.«01_k».proof.Proof.KernelValue

@[expose] public section

noncomputable section

namespace Cert.Moe

open Idealize.ShloMosaic Idealize.ShloMosaic.StableHlo Idealize.SL.Sem

/-! ## The gates are real -/

/-- Below `⊤` in absolute value is being a real number. -/
theorem real_of_abs (x : EReal) (h : max x (-x) < ⊤) : ∃ y : ℝ, x = y := by
  induction x with
  | bot => simp at h
  | top => simp at h
  | coe y => exact ⟨y, rfl⟩

/-- A finite sum of products of reals is real. -/
theorem real_gate (X : (⟨2, ![512, 512]⟩ : Shape).Idx → EReal) (R : (⟨2, ![512, 4]⟩ : Shape).Idx → EReal)
    (hX : ∀ p k, ∃ y : ℝ, X (ix2 p k) = y) (hR : ∀ k e, ∃ y : ℝ, R (ix2 k e) = y) (p : Fin 512) (e : Fin 4) :
    ∃ y : ℝ, gate X R p e = y := by
  refine Finset.sum_induction _ (fun z : EReal => ∃ y : ℝ, z = y) ?_ ⟨0, rfl⟩ ?_
  · rintro _ _ ⟨a, rfl⟩ ⟨b, rfl⟩
    exact ⟨a + b, (EReal.coe_add a b).symm⟩
  · intro k _
    obtain ⟨a, ha⟩ := hX p k
    obtain ⟨b, hb⟩ := hR k e
    exact ⟨a * b, by rw [ha, hb, EReal.coe_mul]⟩

/-- What the precondition's comparison says of an element. -/
theorem real_of_bit (x : EReal)
    (h : FloatOps.cmpf (F := Ideal) (φ := .f32) CmpFPredicate.olt (max x (-x)) (Ideal.ofBits FTy.f32 0x7F800000#32) = 1#1) :
    ∃ y : ℝ, x = y := by
  have ht : Ideal.ofBits FTy.f32 0x7F800000#32 = (⊤ : EReal) := by simp [Ideal.ofBits, Ideal.ieee]
  rw [ht] at h
  refine real_of_abs x ?_
  by_contra hn
  have h0 : BitVec.ofBool (decide (max x (-x) < (⊤ : EReal))) = 1#1 := h
  rw [decide_eq_false hn] at h0
  exact absurd h0 (by decide)

/-- The side conditions of the precondition. -/
theorem facts_pre : Cert.Pre_gates_finite_KernelIdeal.Facts := ⟨by decide, by decide⟩
/-- The same at the reference's shapes. -/
theorem facts_preReference : Cert.Pre_gates_finite_ReferenceIdeal.Facts := ⟨by decide, by decide⟩

/-! ## The two programs agree -/

/-- Both programs run, and the kernel's result blocks are the blocks of the reference's result. -/
theorem algebraic : Cert.algebraic_KernelIdeal_ReferenceIdeal_pre_gates_finite_KernelIdeal
    (hKernelIdeal := Cert.KernelIdeal.Gen.facts) (hReferenceIdeal := Cert.ReferenceIdeal.Gen.facts)
    (hPre_gates_finite_KernelIdeal := facts_pre) := by
  intro m ρ m' ρ' hpre hlay
  have hH : Placed m (argX (launchContents m' 0)) (argR (launchContents m' 0))
      (argU (launchContents m' 0)) (argD (launchContents m' 0)) :=
    ⟨fun c p k => (congrFun (hlay c).1 (ix2 p k)).trans (block_rows c _ p k),
      fun c k e => (congrFun (hlay c).2.1 (ix2 k e)).trans (block_cols c _ k e),
      fun c e k h => (congrFun (hlay c).2.2.1 (ix3 e k h)).trans (block_up c _ e k h),
      fun c e h j => (congrFun (hlay c).2.2.2 (ix3 e h j)).trans (block_down c _ e h j)⟩
  have hX : ∀ p k, ∃ y : ℝ, argX (launchContents m' 0) (ix2 p k) = y := by
    intro p k
    let c : Dev Cert.KernelIdeal.nD := ⟨p.val / 256, by show _ < 4; omega⟩
    let q : Fin 256 := ⟨p.val % 256, by omega⟩
    have hp : rowOf c q = p := Fin.ext (by show 256 * (p.val / 256 % 2) + p.val % 256 = p.val; omega)
    obtain ⟨y, hy⟩ := real_of_bit _ (congrFun (hpre c).1 (ix2 q k))
    exact ⟨y, by rw [← hp, ← hH.rows c q k]; exact hy⟩
  have hR : ∀ k e, ∃ y : ℝ, argR (launchContents m' 0) (ix2 k e) = y := by
    intro k e
    let c : Dev Cert.KernelIdeal.nD := ⟨e.val / 2, by show _ < 4; omega⟩
    let e' : Fin 2 := ⟨e.val % 2, by omega⟩
    have he : expertOf c e' = e := Fin.ext (by show 2 * (e.val / 2 % 2) + e.val % 2 = e.val; omega)
    obtain ⟨y, hy⟩ := real_of_bit _ (congrFun (hpre c).2 (ix2 k e'))
    exact ⟨y, by rw [← he, ← hH.cols c k e']; exact hy⟩
  refine ⟨Cert.ReferenceIdeal.Value.res_main_v178 (launchContents m' 0), ?_, ?_⟩
  · refine (θ_run Cert.KernelIdeal.defs _ _).mono (fun r h c => ?_) (run_main (F := Ideal) m ρ)
    refine ⟨?_, (h.1 c).1.2.1, (h.1 c).2, (h.1 c).1.2.2.1, (h.1 c).1.2.2.2⟩
    refine (h.1 c).1.1.trans (funext fun i => ?_)
    obtain ⟨p, j, rfl⟩ : ∃ (p : Fin 256) (j : Fin 512), i = ix2 p j :=
      ⟨i 0, i 1, by funext a; match a with | ⟨0, _⟩ => rfl | ⟨1, _⟩ => rfl⟩
    refine (outv_apply hH c p j).trans (Eq.symm ?_)
    refine (block_rows c _ p j).trans ?_
    exact v178_apply _ (real_gate _ _ hX hR) (rowOf c p) j
  · refine (θ_run Cert.ReferenceIdeal.defs _ _).mono (fun r h => ?_) (Cert.ReferenceIdeal.Value.run (F := Ideal) m' ρ')
    exact h 0

end Cert.Moe
-- ==== Proof.lean ====
/-
# The proof

The kernel's run (Proof/Launch.lean) gives the three frames, and with what the result blocks hold (Proof/KernelValue.lean)
and what the reference computes (Proof/RefValue.lean) their equality (Proof/Algebraic.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Algebraic
public import Idealize.ShloMosaic.Adequacy
public import Idealize.ShloMosaic.Init

@[expose] public section

noncomputable section

namespace Cert.Proof

open Idealize.ShloMosaic Idealize.SL.Sem

set_option maxRecDepth 20000 in
/-- The two printed programs' kernels are one. -/
theorem bodies_eq : Cert.Kernel.defs₀ (F := Bits) = Cert.KernelIdeal.defs₀ (F := Bits) := by
  unfold Cert.Kernel.defs₀ Cert.KernelIdeal.defs₀
  refine congrArg _ (funext fun l => funext fun a => ?_)
  match l, a with
  | ⟨0, _⟩, (_, _) => rfl
  | ⟨_ + 1, h⟩, _ => exact absurd h (Nat.not_lt.2 (Nat.le_add_left _ _))

/-- So are the programs they make up. -/
theorem defs_eq : Cert.Kernel.defs (F := Bits) = Cert.KernelIdeal.defs (F := Bits) :=
  congrArg (Pipeline.defs (Cert.Kernel.pcfgs (F := Bits))) bodies_eq

/-- The printed kernel runs: the two programs have one text, so this is the run over any float values, at the
    machine's words. -/
theorem frame_kernel : Cert.quiescent_Kernel := fun m ρ _ => by
  rw [defs_eq]
  exact (θ_run Cert.KernelIdeal.defs _ _).mono
    (fun _ h => ⟨fun c => ⟨(h.1 c).1.2.1, (h.1 c).2, (h.1 c).1.2.2.1, (h.1 c).1.2.2.2⟩, h.2⟩) (Cert.Moe.run_main (F := Bits) m ρ)

/-- The same at the extended reals. -/
theorem frame_kernelIdeal : Cert.quiescent_KernelIdeal := fun m ρ _ =>
  (θ_run Cert.KernelIdeal.defs _ _).mono
    (fun _ h => ⟨fun c => ⟨(h.1 c).1.2.1, (h.1 c).2, (h.1 c).1.2.2.1, (h.1 c).1.2.2.2⟩, h.2⟩) (Cert.Moe.run_main (F := Ideal) m ρ)

/-- The reference runs; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Everything claimed. The frames hold of every initial memory, so also of those the precondition admits. -/
theorem claim : Cert.Claim :=
  ⟨Cert.Kernel.Gen.facts, Cert.KernelIdeal.Gen.facts, Cert.ReferenceIdeal.Gen.facts, Cert.Moe.facts_pre, Cert.Moe.facts_preReference,
    frame_kernel, frame_kernelIdeal, fun m ρ _ => frame_kernelIdeal m ρ trivial,
    frame_reference, fun m ρ _ => frame_reference m ρ trivial, trivial, Cert.Moe.algebraic⟩

end Cert.Proof

end
